-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256x256 : Shape := ⟨3, ![512, 256, 256]⟩
abbrev S256x512 : Shape := ⟨2, ![256, 512]⟩
abbrev S512x256 : Shape := ⟨2, ![512, 256]⟩
abbrev S512x512 : Shape := ⟨2, ![512, 512]⟩
abbrev S512 : Shape := ⟨1, ![512]⟩
abbrev S131072x256 : Shape := ⟨2, ![131072, 256]⟩
abbrev S256x1536 : Shape := ⟨2, ![256, 1536]⟩
abbrev S512x1024 : Shape := ⟨2, ![512, 1024]⟩
abbrev S1536 : Shape := ⟨1, ![1536]⟩
abbrev S1x1536 : Shape := ⟨2, ![1, 1536]⟩
abbrev S131072x512 : Shape := ⟨2, ![131072, 512]⟩
abbrev S2048x256 : Shape := ⟨2, ![2048, 256]⟩
abbrev S1024x256 : Shape := ⟨2, ![1024, 256]⟩
abbrev S2048x512 : Shape := ⟨2, ![2048, 512]⟩
abbrev S1024x1536 : Shape := ⟨2, ![1024, 1536]⟩
abbrev S256x1024 : Shape := ⟨2, ![256, 1024]⟩

abbrev nBuf : Space → Nat
  | .hbm => 22
  | .vmem => 14
  | .smem => 0
  | _ => 0

abbrev bufTy : (tb : Table) → Fin (tcTables nBuf tb) → BufTy
  | .hbm, ⟨0, _⟩ => ⟨S512x256x256, .f32⟩
  | .hbm, ⟨1, _⟩ => ⟨S256x512, .f32⟩
  | .hbm, ⟨2, _⟩ => ⟨S512x256, .f32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S512x512, .f32⟩
  | .hbm, ⟨7, _⟩ => ⟨S512, .f32⟩
  | .hbm, ⟨8, _⟩ => ⟨S512x256, .f32⟩
  | .hbm, ⟨9, _⟩ => ⟨S512, .f32⟩
  | .hbm, ⟨10, _⟩ => ⟨S131072x256, .f32⟩
  | .hbm, ⟨11, _⟩ => ⟨S256x512, .f32⟩
  | .hbm, ⟨12, _⟩ => ⟨S256x512, .f32⟩
  | .hbm, ⟨13, _⟩ => ⟨S256x512, .f32⟩
  | .hbm, ⟨14, _⟩ => ⟨S256x1536, .f32⟩
  | .hbm, ⟨15, _⟩ => ⟨S512x512, .f32⟩
  | .hbm, ⟨16, _⟩ => ⟨S512x512, .f32⟩
  | .hbm, ⟨17, _⟩ => ⟨S512x1024, .f32⟩
  | .hbm, ⟨18, _⟩ => ⟨S1536, .f32⟩
  | .hbm, ⟨19, _⟩ => ⟨S1x1536, .f32⟩
  | .hbm, ⟨20, _⟩ => ⟨S131072x512, .f32⟩
  | .hbm, ⟨21, _⟩ => ⟨S256x512, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S256x512, .f32⟩
  | .local _ .vmem, ⟨5, _⟩ => ⟨S256x1536, .f32⟩
  | .local _ .vmem, ⟨6, _⟩ => ⟨S512x1024, .f32⟩
  | .local _ .vmem, ⟨7, _⟩ => ⟨S1x1536, .f32⟩
  | .local _ .vmem, ⟨8, _⟩ => ⟨S2048x512, .f32⟩
  | .local _ .vmem, ⟨9, _⟩ => ⟨S2048x512, .f32⟩
  | .local _ .vmem, ⟨10, _⟩ => ⟨S256x512, .f32⟩
  | .local _ .vmem, ⟨11, _⟩ => ⟨S256x512, .f32⟩
  | .local _ .vmem, ⟨12, _⟩ => ⟨S1024x1536, .f32⟩
  | .local _ .vmem, ⟨13, _⟩ => ⟨S1024x1536, .f32⟩
  | _, _ => ⟨S512x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v215 : BitVec 1 := Scalar.cmpi .eq arg0 c63_i32
  let v216 : BitVec 32 := Scalar.extui v215
  let c0_i32_118 : BitVec 32 := 0#32
  let v217 : BitVec 1 := Scalar.cmpi .ne v216 c0_i32_118
  v217

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c127_i32 : BitVec 32 := 127#32
  let v2 : BitVec 32 := Scalar.minsi v1 c127_i32
  let c0_i32 : BitVec 32 := 0#32
  let c0_i32_1 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S512x256x256 : Shape := ⟨3, ![512, 256, 256]⟩
abbrev S256x512 : Shape := ⟨2, ![256, 512]⟩
abbrev S512x256 : Shape := ⟨2, ![512, 256]⟩
abbrev S512x512 : Shape := ⟨2, ![512, 512]⟩
abbrev S512 : Shape := ⟨1, ![512]⟩
abbrev S512x256x512 : Shape := ⟨3, ![512, 256, 512]⟩
abbrev S1x1x512 : Shape := ⟨3, ![1, 1, 512]⟩
abbrev S_ : Shape := ⟨0, ![]⟩
abbrev S1x256x512 : Shape := ⟨3, ![1, 256, 512]⟩
abbrev S131072x512 : Shape := ⟨2, ![131072, 512]⟩

abbrev nBuf : Space → Nat
  | .hbm => 81
  | .vmem => 0
  | .smem => 0
  | _ => 0

abbrev bufTy : (tb : Table) → Fin (tcTables nBuf tb) → BufTy
  | .hbm, ⟨0, _⟩ => ⟨S512x256x256, .f32⟩
  | .hbm, ⟨1, _⟩ => ⟨S256x512, .f32⟩
  | .hbm, ⟨2, _⟩ => ⟨S512x256, .f32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S512x512, .f32⟩
  | .hbm, ⟨7, _⟩ => ⟨S512, .f32⟩
  | .hbm, ⟨8, _⟩ => ⟨S512x256, .f32⟩
  | .hbm, ⟨9, _⟩ => ⟨S512, .f32⟩
  | .hbm, ⟨10, _⟩ => ⟨S512x256x512, .f32⟩
  | .hbm, ⟨11, _⟩ => ⟨S1x1x512, .f32⟩
  | .hbm, ⟨12, _⟩ => ⟨S512x256x512, .f32⟩
  | .hbm, ⟨13, _⟩ => ⟨S512x256x512, .f32⟩
  | .hbm, ⟨14, _⟩ => ⟨S512x256x512, .f32⟩
  | .hbm, ⟨15, _⟩ => ⟨S1x1x512, .f32⟩
  | .hbm, ⟨16, _⟩ => ⟨S512x256x512, .f32⟩
  | .hbm, ⟨17, _⟩ => ⟨S512x256x512, .f32⟩
  | .hbm, ⟨18, _⟩ => ⟨S512x256x512, .f32⟩
  | .hbm, ⟨19, _⟩ => ⟨S1x1x512, .f32⟩
  | .hbm, ⟨20, _⟩ => ⟨S512x256x512, .f32⟩
  | .hbm, ⟨21, _⟩ => ⟨S512x256x512, .f32⟩
  | .hbm, ⟨22, _⟩ => ⟨S_, .f32⟩
  | .hbm, ⟨23, _⟩ => ⟨S512x256x512, .f32⟩
  | .hbm, ⟨24, _⟩ => ⟨S_, .i32⟩
  | .hbm, ⟨25, _⟩ => ⟨S512x256x512, .f32⟩
  | .hbm, ⟨26, _⟩ => ⟨S512x256x512, .f32⟩
  | .hbm, ⟨27, _⟩ => ⟨S512x256x512, .f32⟩
  | .hbm, ⟨28, _⟩ => ⟨S512x512, .f32⟩
  | .hbm, ⟨29, _⟩ => ⟨S512x512, .f32⟩
  | .hbm, ⟨30, _⟩ => ⟨S_, .i32⟩
  | .hbm, ⟨31, _⟩ => ⟨S256x512, .f32⟩
  | .hbm, ⟨32, _⟩ => ⟨S512x256x512, .f32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S1x256x512, .f32⟩
  | .hbm, ⟨38, _⟩ => ⟨S256x512, .f32⟩
  | .hbm, ⟨39, _⟩ => ⟨S_, .i32⟩
  | .hbm, ⟨40, _⟩ => ⟨S_, .i32⟩
  | .hbm, ⟨41, _⟩ => ⟨S1x256x512, .f32⟩
  | .hbm, ⟨42, _⟩ => ⟨S256x512, .f32⟩
  | .hbm, ⟨43, _⟩ => ⟨S_, .i32⟩
  | .hbm, ⟨44, _⟩ => ⟨S_, .i32⟩
  | .hbm, ⟨45, _⟩ => ⟨S1x256x512, .f32⟩
  | .hbm, ⟨46, _⟩ => ⟨S256x512, .f32⟩
  | .hbm, ⟨47, _⟩ => ⟨S512x512, .f32⟩
  | .hbm, ⟨48, _⟩ => ⟨S256x512, .f32⟩
  | .hbm, ⟨49, _⟩ => ⟨S256x512, .f32⟩
  | .hbm, ⟨50, _⟩ => ⟨S256x512, .f32⟩
  | .hbm, ⟨51, _⟩ => ⟨S256x512, .f32⟩
  | .hbm, ⟨52, _⟩ => ⟨S_, .f32⟩
  | .hbm, ⟨53, _⟩ => ⟨S256x512, .f32⟩
  | .hbm, ⟨54, _⟩ => ⟨S256x512, .f32⟩
  | .hbm, ⟨55, _⟩ => ⟨S_, .f32⟩
  | .hbm, ⟨56, _⟩ => ⟨S256x512, .f32⟩
  | .hbm, ⟨57, _⟩ => ⟨S256x512, .f32⟩
  | .hbm, ⟨58, _⟩ => ⟨S512x512, .f32⟩
  | .hbm, ⟨59, _⟩ => ⟨S256x512, .f32⟩
  | .hbm, ⟨60, _⟩ => ⟨S256x512, .f32⟩
  | .hbm, ⟨61, _⟩ => ⟨S256x512, .f32⟩
  | .hbm, ⟨62, _⟩ => ⟨S_, .f32⟩
  | .hbm, ⟨63, _⟩ => ⟨S256x512, .f32⟩
  | .hbm, ⟨64, _⟩ => ⟨S256x512, .f32⟩
  | .hbm, ⟨65, _⟩ => ⟨S256x512, .f32⟩
  | .hbm, ⟨66, _⟩ => ⟨S_, .f32⟩
  | .hbm, ⟨67, _⟩ => ⟨S256x512, .f32⟩
  | .hbm, ⟨68, _⟩ => ⟨S256x512, .f32⟩
  | .hbm, ⟨69, _⟩ => ⟨S256x512, .f32⟩
  | .hbm, ⟨70, _⟩ => ⟨S256x512, .f32⟩
  | .hbm, ⟨71, _⟩ => ⟨S256x512, .f32⟩
  | .hbm, ⟨72, _⟩ => ⟨S256x512, .f32⟩
  | .hbm, ⟨73, _⟩ => ⟨S256x512, .f32⟩
  | .hbm, ⟨74, _⟩ => ⟨S1x256x512, .f32⟩
  | .hbm, ⟨75, _⟩ => ⟨S_, .i32⟩
  | .hbm, ⟨76, _⟩ => ⟨S_, .i32⟩
  | .hbm, ⟨77, _⟩ => ⟨S512x256x512, .f32⟩
  | .hbm, ⟨78, _⟩ => ⟨S_, .i32⟩
  | .hbm, ⟨79, _⟩ => ⟨S_, .i32⟩
  | .hbm, ⟨80, _⟩ => ⟨S131072x512, .f32⟩
  | _, _ => ⟨S512x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_c : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev main_v13_4 : Ref sig .tc := ⟨.hbm, 29, rfl⟩
abbrev main_v13_5 : Ref sig .tc := ⟨.hbm, 30, rfl⟩
abbrev main_v13_6 : Ref sig .tc := ⟨.hbm, 31, rfl⟩
abbrev main_v13_7 : Ref sig .tc := ⟨.hbm, 32, rfl⟩
abbrev main_while0c_c_7 : Ref sig .tc := ⟨.hbm, 33, rfl⟩
abbrev main_while0c_v15 : Ref sig .tc := ⟨.hbm, 34, rfl⟩
abbrev main_while0b_call0_c : Ref sig .tc := ⟨.hbm, 35, rfl⟩
abbrev main_while0b_call0_c_0 : Ref sig .tc := ⟨.hbm, 36, rfl⟩
abbrev main_while0b_call0_v0 : Ref sig .tc := ⟨.hbm, 37, rfl⟩
abbrev main_while0b_v15 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_call1_v0 : Ref sig .tc := ⟨.hbm, 41, rfl⟩
abbrev main_while0b_v16 : Ref sig .tc := ⟨.hbm, 42, rfl⟩
abbrev main_while0b_call2_c : Ref sig .tc := ⟨.hbm, 43, rfl⟩
abbrev main_while0b_call2_c_0 : Ref sig .tc := ⟨.hbm, 44, rfl⟩
abbrev main_while0b_call2_v0 : Ref sig .tc := ⟨.hbm, 45, rfl⟩
abbrev main_while0b_v17 : Ref sig .tc := ⟨.hbm, 46, rfl⟩
abbrev main_while0b_v18 : Ref sig .tc := ⟨.hbm, 47, rfl⟩
abbrev main_while0b_v19 : Ref sig .tc := ⟨.hbm, 48, rfl⟩
abbrev main_while0b_v20 : Ref sig .tc := ⟨.hbm, 49, rfl⟩
abbrev main_while0b_v21 : Ref sig .tc := ⟨.hbm, 50, rfl⟩
abbrev main_while0b_v22 : Ref sig .tc := ⟨.hbm, 51, rfl⟩
abbrev main_while0b_cst_7 : Ref sig .tc := ⟨.hbm, 52, rfl⟩
abbrev main_while0b_v23 : Ref sig .tc := ⟨.hbm, 53, rfl⟩
abbrev main_while0b_v24 : Ref sig .tc := ⟨.hbm, 54, rfl⟩
abbrev main_while0b_cst_8 : Ref sig .tc := ⟨.hbm, 55, rfl⟩
abbrev main_while0b_v25 : Ref sig .tc := ⟨.hbm, 56, rfl⟩
abbrev main_while0b_v26 : Ref sig .tc := ⟨.hbm, 57, rfl⟩
abbrev main_while0b_v27 : Ref sig .tc := ⟨.hbm, 58, rfl⟩
abbrev main_while0b_v28 : Ref sig .tc := ⟨.hbm, 59, rfl⟩
abbrev main_while0b_v29 : Ref sig .tc := ⟨.hbm, 60, rfl⟩
abbrev main_while0b_v30 : Ref sig .tc := ⟨.hbm, 61, rfl⟩
abbrev main_while0b_cst_9 : Ref sig .tc := ⟨.hbm, 62, rfl⟩
abbrev main_while0b_v31 : Ref sig .tc := ⟨.hbm, 63, rfl⟩
abbrev main_while0b_v32 : Ref sig .tc := ⟨.hbm, 64, rfl⟩
abbrev main_while0b_v33 : Ref sig .tc := ⟨.hbm, 65, rfl⟩
abbrev main_while0b_cst_10 : Ref sig .tc := ⟨.hbm, 66, rfl⟩
abbrev main_while0b_v34 : Ref sig .tc := ⟨.hbm, 67, rfl⟩
abbrev main_while0b_v35 : Ref sig .tc := ⟨.hbm, 68, rfl⟩
abbrev main_while0b_v36 : Ref sig .tc := ⟨.hbm, 69, rfl⟩
abbrev main_while0b_v37 : Ref sig .tc := ⟨.hbm, 70, rfl⟩
abbrev main_while0b_v38 : Ref sig .tc := ⟨.hbm, 71, rfl⟩
abbrev main_while0b_v39 : Ref sig .tc := ⟨.hbm, 72, rfl⟩
abbrev main_while0b_v40 : Ref sig .tc := ⟨.hbm, 73, rfl⟩
abbrev main_while0b_call3_v0 : Ref sig .tc := ⟨.hbm, 74, rfl⟩
abbrev main_while0b_call3_c : Ref sig .tc := ⟨.hbm, 75, rfl⟩
abbrev main_while0b_call3_c_0 : Ref sig .tc := ⟨.hbm, 76, rfl⟩
abbrev main_while0b_v41 : Ref sig .tc := ⟨.hbm, 77, rfl⟩
abbrev main_while0b_c_11 : Ref sig .tc := ⟨.hbm, 78, rfl⟩
abbrev main_while0b_v42 : Ref sig .tc := ⟨.hbm, 79, rfl⟩
abbrev main_v14 : Ref sig .tc := ⟨.hbm, 80, rfl⟩

abbrev nD : Nat := 1
abbrev τ : Topo := Topo.v7x

variable {F : FTy → Type} [FloatOps F]

abbrev main_while0_count : Scf.Loop 32 := ⟨0#32, 512#32, 1#32⟩
-- ==== Proof.Step.lean ====
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

/-! One time step of the kernel as a function of the state, the recurrent weights and the three projected inputs, and what
    each grid point leaves as a chain of eight such steps. -/

namespace Cert.Nbrc

open Idealize Idealize.ShloMosaic Cert.KernelIdeal Cert.KernelIdeal.Gen

variable {F : FTy → Type} [FloatOps F]

/-- The state times both recurrent weights, side by side. -/
def mix (h : FVec F S256x512 .f32) (w : Vec F S512x1024 .f32) : FVec F S256x1024 .f32 :=
  matmul dot_S256x512_S512x1024_S256x1024_1_0_0_1_n_n none h (shapeCast S512x1024 w shapeCasts_S512x1024_S512x1024)
    (constant S256x1024 .f32 0x00000000#32)

/-- What the update gate is taken of: its projected input plus the left half of the product. -/
def gateIn (h : FVec F S256x512 .f32) (w : Vec F S512x1024 .f32) (xc : Vec F S256x512 .f32) : FVec F S256x512 .f32 :=
  addf xc (extractStridedSlice S256x512 ![0, 0] (mix h w) slices_S256x1024_o0_0_S256x512)

/-- The feedback strength: one plus the hyperbolic tangent of its projected input plus the right half of the product. -/
def strength (h : FVec F S256x512 .f32) (w : Vec F S512x1024 .f32) (xa : Vec F S256x512 .f32) : FVec F S256x512 .f32 :=
  addf (broadcast S256x512 (Scalar.ofBits .f32 0x3F800000#32))
    (tanh (addf xa (extractStridedSlice S256x512 ![0, 512] (mix h w) slices_S256x1024_o0_512_S256x512)))

/-- The next state from the state, the recurrent weights and the time's three projected inputs. -/
def cell (h : FVec F S256x512 .f32) (w : Vec F S512x1024 .f32) (xc xa xh : Vec F S256x512 .f32) : FVec F S256x512 .f32 :=
  addf (mulf (logistic (gateIn h w xc)) h)
    (mulf (subf (broadcast S256x512 (Scalar.ofBits .f32 0x3F800000#32)) (logistic (gateIn h w xc)))
      (tanh (addf xh (mulf (strength h w xa) h))))

variable (h : Vec F S256x512 .f32) (w w' w'' : Vec F S512x1024 .f32)
  (xc xa xh xc' xa' xh' xc'' : Vec F S256x512 .f32)

/-! The printed payloads, in these words. -/

theorem pay9_eq : k0_pay9 h (k0_pay6 h w xa) (k0_pay7 h w xc) (k0_pay8 h w xc) xh = cell h w xc xa xh := rfl
theorem pay10_eq : k0_pay10 h (k0_pay6 h w xa) (k0_pay7 h w xc) (k0_pay8 h w xc) xh w' xc' xa' xh'
    = cell (cell h w xc xa xh) w' xc' xa' xh' := rfl
theorem pay11_eq : k0_pay11 h (k0_pay6 h w xa) (k0_pay7 h w xc) (k0_pay8 h w xc) xh w' xc' xa' xh' w''
    = mix (cell (cell h w xc xa xh) w' xc' xa' xh') w'' := rfl
theorem pay12_eq : k0_pay12 h (k0_pay6 h w xa) (k0_pay7 h w xc) (k0_pay8 h w xc) xh w' xc' xa' xh' w'' xc''
    = logistic (gateIn (cell (cell h w xc xa xh) w' xc' xa' xh') w'' xc'') := rfl
theorem pay13_eq : k0_pay13 h (mix h w) (logistic (gateIn h w xc)) xa xh = cell h w xc xa xh := rfl
theorem pay14_eq : k0_pay14 h (mix h w) (logistic (gateIn h w xc)) xa xh w' xc' xa' xh'
    = cell (cell h w xc xa xh) w' xc' xa' xh' := rfl
theorem pay16_eq : k0_pay16 h w xc xa xh = cell h w xc xa xh := rfl
theorem pay17_eq : k0_pay17 h w xc xa xh = cell h w xc xa xh := rfl
theorem pay23_eq : k0_pay23 (cell h w xc xa xh) (k0_pay19 h w xc xa xh w' xc') (k0_pay20 h w xc xa xh w' xa')
    (k0_pay21 h w xc xa xh w' xc') k0_pay22 xh' = cell (cell h w xc xa xh) w' xc' xa' xh' := rfl
theorem pay24_eq (xa'' xh'' : Vec F S256x512 .f32) : k0_pay24 (cell h w xc xa xh) (k0_pay19 h w xc xa xh w' xc') (k0_pay20 h w xc xa xh w' xa')
    (k0_pay21 h w xc xa xh w' xc') k0_pay22 xh' w'' xc'' xa'' xh'' = cell (cell (cell h w xc xa xh) w' xc' xa' xh') w'' xc'' xa'' xh'' := rfl
theorem pay25_eq (xa'' xh'' : Vec F S256x512 .f32) : k0_pay25 (cell h w xc xa xh) (k0_pay19 h w xc xa xh w' xc') (k0_pay20 h w xc xa xh w' xa')
    (k0_pay21 h w xc xa xh w' xc') k0_pay22 xh' w'' xc'' xa'' xh'' = cell (cell (cell h w xc xa xh) w' xc' xa' xh') w'' xc'' xa'' xh'' :=
  shapeCast_self ..

/-- The projections of a chunk of four times: the chunk's rows times the stacked input weights, plus the stacked biases. -/
def project (x : Vec F S1024x256 .f32) (u : Vec F S256x1536 .f32) (b : Vec F S1x1536 .f32) : FVec F S1024x1536 .f32 :=
  addf (matmul dot_S1024x256_S256x1536_S1024x1536_1_0_0_1_n_n none x u (constant S1024x1536 .f32 0x00000000#32))
    (broadcastTo S1024x1536 b broadcasts_S1x1536_S1024x1536)

variable (x : Vec F S1024x256 .f32) (u : Vec F S256x1536 .f32) (b : Vec F S1x1536 .f32)

theorem pay2_eq : k0_pay2 x u b = project x u b := by
  unfold k0_pay2 project; simp only [shapeCast_self]
theorem pay3_eq : k0_pay3 x u b = project x u b := by
  unfold k0_pay3 project; simp only [shapeCast_self]
theorem pay15_eq : k0_pay15 x u b = project x u b := by
  unfold k0_pay15 project; simp only [shapeCast_self]
theorem pay1_eq : k0_pay1 h = h := by
  unfold k0_pay1; simp only [shapeCast_self]

/-- The step of the kernel at the chunk's time 0, 1, 2 or 3: its three projected inputs are the chunk's rows of that time. -/
def step0 (w : Vec F S512x1024 .f32) (p : Vec F S1024x1536 .f32) (h : Vec F S256x512 .f32) : FVec F S256x512 .f32 :=
  cell h w (View.ld p (Rect.unit ![0, 0] S256x512.size inb_S1024x1536_S256x512_0_0))
    (View.ld p (Rect.unit ![0, 512] S256x512.size inb_S1024x1536_S256x512_0_512))
    (View.ld p (Rect.unit ![0, 1024] S256x512.size inb_S1024x1536_S256x512_0_1024))
@[inherit_doc step0]
def step1 (w : Vec F S512x1024 .f32) (p : Vec F S1024x1536 .f32) (h : Vec F S256x512 .f32) : FVec F S256x512 .f32 :=
  cell h w (View.ld p (Rect.unit ![256, 0] S256x512.size inb_S1024x1536_S256x512_256_0))
    (View.ld p (Rect.unit ![256, 512] S256x512.size inb_S1024x1536_S256x512_256_512))
    (View.ld p (Rect.unit ![256, 1024] S256x512.size inb_S1024x1536_S256x512_256_1024))
@[inherit_doc step0]
def step2 (w : Vec F S512x1024 .f32) (p : Vec F S1024x1536 .f32) (h : Vec F S256x512 .f32) : FVec F S256x512 .f32 :=
  cell h w (View.ld p (Rect.unit ![512, 0] S256x512.size inb_S1024x1536_S256x512_512_0))
    (View.ld p (Rect.unit ![512, 512] S256x512.size inb_S1024x1536_S256x512_512_512))
    (View.ld p (Rect.unit ![512, 1024] S256x512.size inb_S1024x1536_S256x512_512_1024))
@[inherit_doc step0]
def step3 (w : Vec F S512x1024 .f32) (p : Vec F S1024x1536 .f32) (h : Vec F S256x512 .f32) : FVec F S256x512 .f32 :=
  cell h w (View.ld p (Rect.unit ![768, 0] S256x512.size inb_S1024x1536_S256x512_768_0))
    (View.ld p (Rect.unit ![768, 512] S256x512.size inb_S1024x1536_S256x512_768_512))
    (View.ld p (Rect.unit ![768, 1024] S256x512.size inb_S1024x1536_S256x512_768_1024))

/-- Four steps, through a chunk's projections. -/
def four (w : Vec F S512x1024 .f32) (p : Vec F S1024x1536 .f32) (h : Vec F S256x512 .f32) : FVec F S256x512 .f32 :=
  step3 w p (step2 w p (step1 w p (step0 w p h)))

/-- The second chunk's rows of a point's block of eight times. -/
abbrev late (x : Vec F S2048x256 .f32) : Vec F S1024x256 .f32 :=
  View.ld x (Rect.unit ![1024, 0] S1024x256.size inb_S2048x256_S1024x256_1024_0)

/-- The first chunk's rows of a point's block of eight times. -/
abbrev early (x : Vec F S2048x256 .f32) : Vec F S1024x256 .f32 :=
  View.ld x (Rect.unit ![0, 0] S1024x256.size inb_S2048x256_S1024x256_0_0)

/-- The eight states of a point, stacked: four through the projections `p`, four through the projections `q`. -/
def stacked (w : Vec F S512x1024 .f32) (p q : Vec F S1024x1536 .f32) (h : Vec F S256x512 .f32) : Vec F S2048x512 .f32 :=
  View.canon (Val := Elt F) (e := .f32) [
    ⟨Rect.unit ![1792, 0] S256x512.size inb_S2048x512_S256x512_1792_0, four w q (four w p h)⟩,
    ⟨Rect.unit ![1536, 0] S256x512.size inb_S2048x512_S256x512_1536_0, step2 w q (step1 w q (step0 w q (four w p h)))⟩,
    ⟨Rect.unit ![1280, 0] S256x512.size inb_S2048x512_S256x512_1280_0, step1 w q (step0 w q (four w p h))⟩,
    ⟨Rect.unit ![1024, 0] S256x512.size inb_S2048x512_S256x512_1024_0, step0 w q (four w p h)⟩,
    ⟨Rect.unit ![768, 0] S256x512.size inb_S2048x512_S256x512_768_0, four w p h⟩,
    ⟨Rect.unit ![512, 0] S256x512.size inb_S2048x512_S256x512_512_0, step2 w p (step1 w p (step0 w p h))⟩,
    ⟨Rect.unit ![256, 0] S256x512.size inb_S2048x512_S256x512_256_0, step1 w p (step0 w p h)⟩,
    ⟨Rect.unit ![0, 0] S256x512.size inb_S2048x512_S256x512_0_0, step0 w p h⟩]

variable (m : (l : Loc nD τ sig) → Buf (Elt F) l)

/-- The state a first point leaves: four steps through the first chunk's projections, four through the second's. -/
theorem first_state (c : Dev nD) (t : Fin cfg0.N) (h0 : t.val % 64 = 0) (h1 : ¬t.val % 64 = 63) :
    (outsAt0 m c t.val t.isLt).2.2.1
      = four (iblk m c 4 t) (project (late (iblk m c 0 t)) (iblk m c 3 t) (iblk m c 5 t))
          (four (iblk m c 4 t) (project (early (iblk m c 0 t)) (iblk m c 3 t) (iblk m c 5 t)) (iblk m c 2 t)) := by
  rw [outsAt0_A m c t h0 h1]
  frame_open
  simp (disch := decide) only [↓ View.readCov_skip, ↓ View.readCov_cons_toLoadRect, ↓ View.readCov_fill]
  frame_out
  simp only [read_unread_whole, pay1_eq, pay2_eq, pay3_eq, pay15_eq, pay9_eq, pay10_eq, pay11_eq, pay12_eq, pay13_eq, pay14_eq,
    pay16_eq, pay17_eq, pay23_eq, pay24_eq, pay25_eq]
  rfl

/-- The projections a first point leaves for the point after: those of the chunk after its block. -/
theorem first_next (c : Dev nD) (t : Fin cfg0.N) (h0 : t.val % 64 = 0) (h1 : ¬t.val % 64 = 63) :
    (outsAt0 m c t.val t.isLt).2.2.2
      = project (iblk m c 1 t) (iblk m c 3 t) (iblk m c 5 t) := by
  rw [outsAt0_A m c t h0 h1]
  frame_open
  simp (disch := decide) only [↓ View.readCov_skip, ↓ View.readCov_cons_toLoadRect, ↓ View.readCov_fill]
  frame_out
  simp only [read_unread_whole, pay1_eq, pay2_eq, pay3_eq, pay15_eq, pay9_eq, pay10_eq, pay11_eq, pay12_eq, pay13_eq, pay14_eq,
    pay16_eq, pay17_eq, pay23_eq, pay24_eq, pay25_eq]

/-- The block of results a first point leaves: its eight states, stacked. -/
theorem first_out (c : Dev nD) (t : Fin cfg0.N) (h0 : t.val % 64 = 0) (h1 : ¬t.val % 64 = 63) :
    (outsAt0 m c t.val t.isLt).1
      = stacked (iblk m c 4 t) (project (early (iblk m c 0 t)) (iblk m c 3 t) (iblk m c 5 t))
        (project (late (iblk m c 0 t)) (iblk m c 3 t) (iblk m c 5 t)) (iblk m c 2 t) := by
  rw [outsAt0_A m c t h0 h1]
  frame_open
  simp (disch := decide) only [↓ View.readCov_skip, ↓ View.readCov_cons_toLoadRect, ↓ View.readCov_fill]
  frame_out
  simp only [read_unread_whole, pay1_eq, pay2_eq, pay3_eq, pay15_eq, pay9_eq, pay10_eq, pay11_eq, pay12_eq, pay13_eq, pay14_eq,
    pay16_eq, pay17_eq, pay23_eq, pay24_eq, pay25_eq]
  rfl

/-- The state a middle point leaves: four steps through the first chunk's projections, four through the second's. -/
theorem mid_state (c : Dev nD) (t : Fin cfg0.N) (h0 : ¬t.val % 64 = 0) (h1 : ¬t.val % 64 = 63) :
    (outsAt0 m c t.val t.isLt).2.2.1
      = four (iblk m c 4 t) (project (late (iblk m c 0 t)) (iblk m c 3 t) (iblk m c 5 t))
          (four (iblk m c 4 t) (outsAt0 m c (t.val - 1) (Nat.lt_of_le_of_lt (Nat.sub_le _ _) t.isLt)).2.2.2 (outsAt0 m c (t.val - 1) (Nat.lt_of_le_of_lt (Nat.sub_le _ _) t.isLt)).2.2.1) := by
  rw [outsAt0_B m c t h0 h1]
  frame_open
  simp (disch := decide) only [↓ View.readCov_skip, ↓ View.readCov_cons_toLoadRect, ↓ View.readCov_fill]
  frame_out
  simp only [read_unread_whole, pay1_eq, pay2_eq, pay3_eq, pay15_eq, pay9_eq, pay10_eq, pay11_eq, pay12_eq, pay13_eq, pay14_eq,
    pay16_eq, pay17_eq, pay23_eq, pay24_eq, pay25_eq]
  rfl

/-- The projections a middle point leaves for the point after: those of the chunk after its block. -/
theorem mid_next (c : Dev nD) (t : Fin cfg0.N) (h0 : ¬t.val % 64 = 0) (h1 : ¬t.val % 64 = 63) :
    (outsAt0 m c t.val t.isLt).2.2.2
      = project (iblk m c 1 t) (iblk m c 3 t) (iblk m c 5 t) := by
  rw [outsAt0_B m c t h0 h1]
  frame_open
  simp (disch := decide) only [↓ View.readCov_skip, ↓ View.readCov_cons_toLoadRect, ↓ View.readCov_fill]
  frame_out
  simp only [read_unread_whole, pay1_eq, pay2_eq, pay3_eq, pay15_eq, pay9_eq, pay10_eq, pay11_eq, pay12_eq, pay13_eq, pay14_eq,
    pay16_eq, pay17_eq, pay23_eq, pay24_eq, pay25_eq]

/-- The block of results a middle point leaves: its eight states, stacked. -/
theorem mid_out (c : Dev nD) (t : Fin cfg0.N) (h0 : ¬t.val % 64 = 0) (h1 : ¬t.val % 64 = 63) :
    (outsAt0 m c t.val t.isLt).1
      = stacked (iblk m c 4 t) (outsAt0 m c (t.val - 1) (Nat.lt_of_le_of_lt (Nat.sub_le _ _) t.isLt)).2.2.2
        (project (late (iblk m c 0 t)) (iblk m c 3 t) (iblk m c 5 t)) (outsAt0 m c (t.val - 1) (Nat.lt_of_le_of_lt (Nat.sub_le _ _) t.isLt)).2.2.1 := by
  rw [outsAt0_B m c t h0 h1]
  frame_open
  simp (disch := decide) only [↓ View.readCov_skip, ↓ View.readCov_cons_toLoadRect, ↓ View.readCov_fill]
  frame_out
  simp only [read_unread_whole, pay1_eq, pay2_eq, pay3_eq, pay15_eq, pay9_eq, pay10_eq, pay11_eq, pay12_eq, pay13_eq, pay14_eq,
    pay16_eq, pay17_eq, pay23_eq, pay24_eq, pay25_eq]
  rfl

/-- The state a last point leaves: four steps through the first chunk's projections, four through the second's. -/
theorem end_state (c : Dev nD) (t : Fin cfg0.N) (h0 : ¬t.val % 64 = 0) (h1 : t.val % 64 = 63) :
    (outsAt0 m c t.val t.isLt).2.2.1
      = four (iblk m c 4 t) (project (late (iblk m c 0 t)) (iblk m c 3 t) (iblk m c 5 t))
          (four (iblk m c 4 t) (outsAt0 m c (t.val - 1) (Nat.lt_of_le_of_lt (Nat.sub_le _ _) t.isLt)).2.2.2 (outsAt0 m c (t.val - 1) (Nat.lt_of_le_of_lt (Nat.sub_le _ _) t.isLt)).2.2.1) := by
  rw [outsAt0_C m c t h0 h1]
  frame_open
  simp (disch := decide) only [↓ View.readCov_skip, ↓ View.readCov_cons_toLoadRect, ↓ View.readCov_fill]
  frame_out
  simp only [read_unread_whole, pay1_eq, pay2_eq, pay3_eq, pay15_eq, pay9_eq, pay10_eq, pay11_eq, pay12_eq, pay13_eq, pay14_eq,
    pay16_eq, pay17_eq, pay23_eq, pay24_eq, pay25_eq]
  rfl

/-- The projections a last point leaves for the point after: those of the chunk after its block. -/
theorem end_next (c : Dev nD) (t : Fin cfg0.N) (h0 : ¬t.val % 64 = 0) (h1 : t.val % 64 = 63) :
    (outsAt0 m c t.val t.isLt).2.2.2
      = project (iblk m c 1 t) (iblk m c 3 t) (iblk m c 5 t) := by
  rw [outsAt0_C m c t h0 h1]
  frame_open
  simp (disch := decide) only [↓ View.readCov_skip, ↓ View.readCov_cons_toLoadRect, ↓ View.readCov_fill]
  frame_out
  simp only [read_unread_whole, pay1_eq, pay2_eq, pay3_eq, pay15_eq, pay9_eq, pay10_eq, pay11_eq, pay12_eq, pay13_eq, pay14_eq,
    pay16_eq, pay17_eq, pay23_eq, pay24_eq, pay25_eq]

/-- The block of results a last point leaves: its eight states, stacked. -/
theorem end_out (c : Dev nD) (t : Fin cfg0.N) (h0 : ¬t.val % 64 = 0) (h1 : t.val % 64 = 63) :
    (outsAt0 m c t.val t.isLt).1
      = stacked (iblk m c 4 t) (outsAt0 m c (t.val - 1) (Nat.lt_of_le_of_lt (Nat.sub_le _ _) t.isLt)).2.2.2
        (project (late (iblk m c 0 t)) (iblk m c 3 t) (iblk m c 5 t)) (outsAt0 m c (t.val - 1) (Nat.lt_of_le_of_lt (Nat.sub_le _ _) t.isLt)).2.2.1 := by
  rw [outsAt0_C m c t h0 h1]
  frame_open
  simp (disch := decide) only [↓ View.readCov_skip, ↓ View.readCov_cons_toLoadRect, ↓ View.readCov_fill]
  frame_out
  simp only [read_unread_whole, pay1_eq, pay2_eq, pay3_eq, pay15_eq, pay9_eq, pay10_eq, pay11_eq, pay12_eq, pay13_eq, pay14_eq,
    pay16_eq, pay17_eq, pay23_eq, pay24_eq, pay25_eq]
  rfl

/-- The final state, which the last point stores. -/
theorem end_last (c : Dev nD) (t : Fin cfg0.N) (h0 : ¬t.val % 64 = 0) (h1 : t.val % 64 = 63) :
    (outsAt0 m c t.val t.isLt).2.1
      = four (iblk m c 4 t) (project (late (iblk m c 0 t)) (iblk m c 3 t) (iblk m c 5 t))
          (four (iblk m c 4 t) (outsAt0 m c (t.val - 1) (Nat.lt_of_le_of_lt (Nat.sub_le _ _) t.isLt)).2.2.2 (outsAt0 m c (t.val - 1) (Nat.lt_of_le_of_lt (Nat.sub_le _ _) t.isLt)).2.2.1) := by
  rw [outsAt0_C m c t h0 h1]
  frame_open
  simp (disch := decide) only [↓ View.readCov_skip, ↓ View.readCov_cons_toLoadRect, ↓ View.readCov_fill]
  frame_out
  simp only [read_unread_whole, pay1_eq, pay2_eq, pay3_eq, pay15_eq, pay9_eq, pay10_eq, pay11_eq, pay12_eq, pay13_eq, pay14_eq,
    pay16_eq, pay17_eq, pay23_eq, pay24_eq, pay25_eq]
  rfl

end Cert.Nbrc

end
-- ==== Proof.Recur.lean ====
module

public import Idealize.ShloMosaic.PureOps.Ideal
public import Mathlib.Algebra.BigOperators.Fin

@[expose] public section

noncomputable section

/-! The recurrence both programs compute, over the extended reals: a bistable recurrent cell run through 512 times from a given
    state. -/

namespace Cert.Nbrc

open Idealize.ShloMosaic

/-- The cell's element: from what its gate, its feedback and its candidate are taken of, and the old element. -/
def next (c a z h : EReal) : EReal :=
  Ideal.logistic c * h + (1 - Ideal.logistic c) * Ideal.tanh (z + (1 + Ideal.tanh a) * h)

/-- The ten arrays, as functions of their coordinates: inputs by time, row and feature; the state the recurrence starts from; and
    for the gate (`c`), the feedback (`a`) and the candidate (`h`) an input weight and a bias, the first two a recurrent weight. -/
structure Inputs where
  x : ℕ → Fin 256 → Fin 256 → EReal
  start : Fin 256 → Fin 512 → EReal
  uc : Fin 512 → Fin 256 → EReal
  wc : Fin 512 → Fin 512 → EReal
  bc : Fin 512 → EReal
  ua : Fin 512 → Fin 256 → EReal
  wa : Fin 512 → Fin 512 → EReal
  ba : Fin 512 → EReal
  uh : Fin 512 → Fin 256 → EReal
  bh : Fin 512 → EReal

namespace Inputs

variable (I : Inputs)

/-- An input projected by a weight, plus a bias. -/
def proj (u : Fin 512 → Fin 256 → EReal) (b : Fin 512 → EReal) (t : ℕ) (r : Fin 256) (j : Fin 512) : EReal :=
  (∑ k, I.x t r k * u j k) + b j

/-- The state after `t` times. -/
def state : ℕ → Fin 256 → Fin 512 → EReal
  | 0 => I.start
  | t + 1 => fun r j =>
    next (I.proj I.uc I.bc t r j + ∑ k, state t r k * I.wc j k)
      (I.proj I.ua I.ba t r j + ∑ k, state t r k * I.wa j k)
      (I.proj I.uh I.bh t r j) (state t r j)

theorem state_succ (t : ℕ) (r : Fin 256) (j : Fin 512) : I.state (t + 1) r j
    = next (I.proj I.uc I.bc t r j + ∑ k, I.state t r k * I.wc j k)
      (I.proj I.ua I.ba t r j + ∑ k, I.state t r k * I.wa j k)
      (I.proj I.uh I.bh t r j) (I.state t r j) := rfl

end Inputs

end Cert.Nbrc

end
-- ==== Proof.Point.lean ====
module

public import proofs.«01_k».proof.Proof.Step
public import proofs.«01_k».proof.Proof.Recur
public import Idealize.ShloMosaic.Lib.Pointwise

@[expose] public section

set_option maxRecDepth 16384

noncomputable section

/-! The kernel's step read at an element, at the extended reals. -/

namespace Cert.Nbrc

open Idealize Idealize.ShloMosaic Cert.KernelIdeal Cert.KernelIdeal.Gen

/-- One step at an element. -/
theorem cell_apply (h : Vec Ideal S256x512 .f32) (w : Vec Ideal S512x1024 .f32) (xc xa xh : Vec Ideal S256x512 .f32)
    (r : Fin 256) (j : Fin 512) :
    cell (F := Ideal) h w xc xa xh (ix2 r j)
      = next (xc (ix2 r j) + ∑ k : Fin 512, h (ix2 r k) * w (ix2 k ⟨j.val, by omega⟩))
          (xa (ix2 r j) + ∑ k : Fin 512, h (ix2 r k) * w (ix2 k ⟨512 + j.val, by omega⟩)) (xh (ix2 r j)) (h (ix2 r j)) := by
  unfold cell strength gateIn mix next
  simp only [shapeCast_self]
  pointwise

/-- A projection at an element. -/
theorem project_apply (x : Vec Ideal S1024x256 .f32) (u : Vec Ideal S256x1536 .f32) (b : Vec Ideal S1x1536 .f32)
    (r : Fin 1024) (j : Fin 1536) :
    project (F := Ideal) x u b (ix2 r j) = (∑ k : Fin 256, x (ix2 r k) * u (ix2 k j)) + b (ix2 0 j) := by
  unfold project
  pointwise

/-- The stacked recurrent weights hold the two recurrent weights, transposed, side by side. -/
def IsWeights (I : Inputs) (w : Vec Ideal S512x1024 .f32) : Prop :=
  ∀ k j : Fin 512, w (ix2 k ⟨j.val, by omega⟩) = I.wc j k ∧ w (ix2 k ⟨512 + j.val, by omega⟩) = I.wa j k

/-- A chunk's projections are those of the four times from `T`. -/
def IsProj (I : Inputs) (T : ℕ) (p : Vec Ideal S1024x1536 .f32) : Prop :=
  ∀ (s : Fin 4) (r : Fin 256) (j : Fin 512),
    p (ix2 ⟨256 * s.val + r.val, by omega⟩ ⟨0 + j.val, by omega⟩) = I.proj I.uc I.bc (T + s.val) r j
    ∧ p (ix2 ⟨256 * s.val + r.val, by omega⟩ ⟨512 + j.val, by omega⟩) = I.proj I.ua I.ba (T + s.val) r j
    ∧ p (ix2 ⟨256 * s.val + r.val, by omega⟩ ⟨1024 + j.val, by omega⟩) = I.proj I.uh I.bh (T + s.val) r j

/-- The array is the state after `T` times. -/
def IsState (I : Inputs) (T : ℕ) (h : Vec Ideal S256x512 .f32) : Prop :=
  ∀ (r : Fin 256) (j : Fin 512), h (ix2 r j) = I.state T r j

variable {I : Inputs} {T : ℕ} {w : Vec Ideal S512x1024 .f32} {p q : Vec Ideal S1024x1536 .f32} {h : Vec Ideal S256x512 .f32}

/-- A step whose projected inputs are those of time `T`, from the state after `T` times, gives the state after one more. -/
theorem cell_state (hw : IsWeights I w) (hh : IsState I T h) {xc xa xh : Vec Ideal S256x512 .f32}
    (hc : ∀ r j, xc (ix2 r j) = I.proj I.uc I.bc T r j) (ha : ∀ r j, xa (ix2 r j) = I.proj I.ua I.ba T r j)
    (hz : ∀ r j, xh (ix2 r j) = I.proj I.uh I.bh T r j) : IsState I (T + 1) (cell (F := Ideal) h w xc xa xh) := by
  intro r j
  rw [cell_apply, I.state_succ, hc, ha, hz, hh]
  simp only [hh r _, (hw _ j).1, (hw _ j).2]

/-- A load of a block of 256 rows and 512 columns, at an element. -/
theorem ld_at (p : Vec Ideal S1024x1536 .f32) (a b : ℕ) (inb) (r : Fin 256) (j : Fin 512) (hr : a + r.val < 1024) (hj : b + j.val < 1536) :
    View.ld p (Rect.unit ![a, b] S256x512.size inb) (ix2 r j) = p (ix2 ⟨a + r.val, hr⟩ ⟨b + j.val, hj⟩) :=
  View.ld_unit_apply_of p _ _ inb (ix2 r j) _ fun x => by match x with | ⟨0, _⟩ => rfl | ⟨1, _⟩ => rfl

theorem step0_state (hw : IsWeights I w) (hp : IsProj I T p) (hh : IsState I (T + 0) h) : IsState I (T + 1) (step0 (F := Ideal) w p h) :=
  cell_state hw hh
    (fun r j => (ld_at p 0 0 _ r j (by omega) (by omega)).trans (hp 0 r j).1)
    (fun r j => (ld_at p 0 512 _ r j (by omega) (by omega)).trans (hp 0 r j).2.1)
    (fun r j => (ld_at p 0 1024 _ r j (by omega) (by omega)).trans (hp 0 r j).2.2)

theorem step1_state (hw : IsWeights I w) (hp : IsProj I T p) (hh : IsState I (T + 1) h) : IsState I (T + 2) (step1 (F := Ideal) w p h) :=
  cell_state hw hh
    (fun r j => (ld_at p 256 0 _ r j (by omega) (by omega)).trans (hp 1 r j).1)
    (fun r j => (ld_at p 256 512 _ r j (by omega) (by omega)).trans (hp 1 r j).2.1)
    (fun r j => (ld_at p 256 1024 _ r j (by omega) (by omega)).trans (hp 1 r j).2.2)

theorem step2_state (hw : IsWeights I w) (hp : IsProj I T p) (hh : IsState I (T + 2) h) : IsState I (T + 3) (step2 (F := Ideal) w p h) :=
  cell_state hw hh
    (fun r j => (ld_at p 512 0 _ r j (by omega) (by omega)).trans (hp 2 r j).1)
    (fun r j => (ld_at p 512 512 _ r j (by omega) (by omega)).trans (hp 2 r j).2.1)
    (fun r j => (ld_at p 512 1024 _ r j (by omega) (by omega)).trans (hp 2 r j).2.2)

theorem step3_state (hw : IsWeights I w) (hp : IsProj I T p) (hh : IsState I (T + 3) h) : IsState I (T + 4) (step3 (F := Ideal) w p h) :=
  cell_state hw hh
    (fun r j => (ld_at p 768 0 _ r j (by omega) (by omega)).trans (hp 3 r j).1)
    (fun r j => (ld_at p 768 512 _ r j (by omega) (by omega)).trans (hp 3 r j).2.1)
    (fun r j => (ld_at p 768 1024 _ r j (by omega) (by omega)).trans (hp 3 r j).2.2)

/-- Four steps through the projections of the times from `T`. -/
theorem four_state (hw : IsWeights I w) (hp : IsProj I T p) (hh : IsState I T h) : IsState I (T + 4) (four (F := Ideal) w p h) :=
  step3_state hw hp (step2_state hw hp (step1_state hw hp (step0_state hw hp hh)))

/-- The block of results of the eight times from `T`: row `256 s + r` is row `r` of the state after `T + s + 1` times. -/
def block (I : Inputs) (T : ℕ) (y : S2048x512.Idx) : EReal :=
  I.state (T + (y 0).val / 256 + 1) ⟨(y 0).val % 256, Nat.mod_lt _ (by decide)⟩ (y 1)

/-- A state stored at its rows is a part of that block. -/
theorem piece_state (k a : ℕ) (ha : a = 256 * k) (inb) {v : Vec Ideal S256x512 .f32} (hv : IsState I (T + (k + 1)) v) (x : S256x512.Idx) :
    v x = block I T ((Rect.unit (s := S2048x512) ![a, 0] S256x512.size inb).emb x) := by
  obtain ⟨r, j, rfl⟩ : ∃ (r : Fin 256) (j : Fin 512), x = ix2 r j := ⟨x 0, x 1, eq_ix2 x⟩
  have e0 : ((Rect.unit (s := S2048x512) ![a, 0] S256x512.size inb).emb (ix2 r j) 0).val = a + r.val :=
    Rect.idx_unit_val (s := S2048x512) ![a, 0] S256x512.size inb (ix2 r j) 0
  have e1 : ((Rect.unit (s := S2048x512) ![a, 0] S256x512.size inb).emb (ix2 r j) 1).val = 0 + j.val :=
    Rect.idx_unit_val (s := S2048x512) ![a, 0] S256x512.size inb (ix2 r j) 1
  rw [hv r j]
  unfold block
  congr 1
  · rw [e0]; omega
  · apply Fin.ext; simp only [e0]; omega
  · apply Fin.ext; rw [e1]; omega

/-- Eight states stored one below another are the block of results. -/
theorem tiles_block {v1 v2 v3 v4 v5 v6 v7 v8 : Vec Ideal S256x512 .f32} (h1 : IsState I (T + 1) v1) (h2 : IsState I (T + 2) v2) (h3 : IsState I (T + 3) v3) (h4 : IsState I (T + 4) v4)
    (h5 : IsState I (T + 5) v5) (h6 : IsState I (T + 6) v6) (h7 : IsState I (T + 7) v7) (h8 : IsState I (T + 8) v8) (y : S2048x512.Idx) :
    View.canon (s := S2048x512) (Val := Elt Ideal) (e := .f32) [
      ⟨Rect.unit ![1792, 0] S256x512.size inb_S2048x512_S256x512_1792_0, v8⟩,
      ⟨Rect.unit ![1536, 0] S256x512.size inb_S2048x512_S256x512_1536_0, v7⟩,
      ⟨Rect.unit ![1280, 0] S256x512.size inb_S2048x512_S256x512_1280_0, v6⟩,
      ⟨Rect.unit ![1024, 0] S256x512.size inb_S2048x512_S256x512_1024_0, v5⟩,
      ⟨Rect.unit ![768, 0] S256x512.size inb_S2048x512_S256x512_768_0, v4⟩,
      ⟨Rect.unit ![512, 0] S256x512.size inb_S2048x512_S256x512_512_0, v3⟩,
      ⟨Rect.unit ![256, 0] S256x512.size inb_S2048x512_S256x512_256_0, v2⟩,
      ⟨Rect.unit ![0, 0] S256x512.size inb_S2048x512_S256x512_0_0, v1⟩] y = block I T y :=
  View.canon_append_of_piecesOf (s := S2048x512) (Val := Elt Ideal) (e := .f32) (block I T) []
    [⟨Rect.unit ![1792, 0] S256x512.size inb_S2048x512_S256x512_1792_0, v8⟩,
      ⟨Rect.unit ![1536, 0] S256x512.size inb_S2048x512_S256x512_1536_0, v7⟩,
      ⟨Rect.unit ![1280, 0] S256x512.size inb_S2048x512_S256x512_1280_0, v6⟩,
      ⟨Rect.unit ![1024, 0] S256x512.size inb_S2048x512_S256x512_1024_0, v5⟩,
      ⟨Rect.unit ![768, 0] S256x512.size inb_S2048x512_S256x512_768_0, v4⟩,
      ⟨Rect.unit ![512, 0] S256x512.size inb_S2048x512_S256x512_512_0, v3⟩,
      ⟨Rect.unit ![256, 0] S256x512.size inb_S2048x512_S256x512_256_0, v2⟩,
      ⟨Rect.unit ![0, 0] S256x512.size inb_S2048x512_S256x512_0_0, v1⟩]
    ⟨piece_state 7 1792 rfl inb_S2048x512_S256x512_1792_0 h8, piece_state 6 1536 rfl inb_S2048x512_S256x512_1536_0 h7,
      piece_state 5 1280 rfl inb_S2048x512_S256x512_1280_0 h6, piece_state 4 1024 rfl inb_S2048x512_S256x512_1024_0 h5,
      piece_state 3 768 rfl inb_S2048x512_S256x512_768_0 h4,
      piece_state 2 512 rfl inb_S2048x512_S256x512_512_0 h3, piece_state 1 256 rfl inb_S2048x512_S256x512_256_0 h2, piece_state 0 0 rfl inb_S2048x512_S256x512_0_0 h1, trivial⟩ y
    (View.cover_of_tiledL (s := S2048x512) (e := .f32) _ S256x512.size (by sl_kernel_rfl) y)

/-- The eight stacked states are the block of results. -/
theorem stacked_state (hw : IsWeights I w) (hp : IsProj I T p) (hq : IsProj I (T + 4) q) (hh : IsState I T h) (y : S2048x512.Idx) :
    stacked (F := Ideal) w p q h y = block I T y := by
  have h1 := step0_state hw hp hh
  have h2 := step1_state hw hp h1
  have h3 := step2_state hw hp h2
  have h4 := four_state hw hp hh
  have h5 := step0_state hw hq h4
  have h6 := step1_state hw hq h5
  have h7 := step2_state hw hq h6
  have h8 := four_state hw hq h4
  exact tiles_block h1 h2 h3 h4 h5 h6 h7 h8 y

end Cert.Nbrc

end
-- ==== Proof.Sweep.lean ====
module

public import proofs.«01_k».proof.Proof.Point
public import Idealize.ShloMosaic.Lib.Claim
public import Idealize.ShloMosaic.Lib.StableHlo.RunRead

@[expose] public section

set_option maxRecDepth 16384

noncomputable section

/-! What the kernel's grid leaves, point by point, at the extended reals. -/

namespace Cert.Nbrc

open Idealize Idealize.ShloMosaic Cert.KernelIdeal Cert.KernelIdeal.Gen

variable (m : (l : Loc nD τ sig) → Buf (Elt Ideal) l)

/-- The kernel's ten arguments as coordinates' functions. -/
def given (c : Dev nD) : Inputs where
  x t r k := (m ((c.tc : Thread nD τ).loc main_arg0) : Vec Ideal S512x256x256 .f32) (ix3 ⟨t % 512, Nat.mod_lt _ (by decide)⟩ r k)
  start r j := (m ((c.tc : Thread nD τ).loc main_arg1) : Vec Ideal S256x512 .f32) (ix2 r j)
  uc j k := (m ((c.tc : Thread nD τ).loc main_arg2) : Vec Ideal S512x256 .f32) (ix2 j k)
  wc j k := (m ((c.tc : Thread nD τ).loc main_arg3) : Vec Ideal S512x512 .f32) (ix2 j k)
  bc j := (m ((c.tc : Thread nD τ).loc main_arg4) : Vec Ideal S512 .f32) (ix1 j)
  ua j k := (m ((c.tc : Thread nD τ).loc main_arg5) : Vec Ideal S512x256 .f32) (ix2 j k)
  wa j k := (m ((c.tc : Thread nD τ).loc main_arg6) : Vec Ideal S512x512 .f32) (ix2 j k)
  ba j := (m ((c.tc : Thread nD τ).loc main_arg7) : Vec Ideal S512 .f32) (ix1 j)
  uh j k := (m ((c.tc : Thread nD τ).loc main_arg8) : Vec Ideal S512x256 .f32) (ix2 j k)
  bh j := (m ((c.tc : Thread nD τ).loc main_arg9) : Vec Ideal S512 .f32) (ix1 j)

/-- The block indices of the windows at a point. -/
theorem index_facts : ∀ t : Fin cfg0.N,
    win0_0.index t = ![t.val, 0] ∧ win0_1.index t = ![min (2 * t.val + 2) 127, 0] ∧ win0_2.index t = ![0, 0]
    ∧ win0_3.index t = ![0, 0] ∧ win0_4.index t = ![0, 0] ∧ win0_5.index t = ![0, 0] ∧ win0_6.index t = ![t.val, 0]
    ∧ win0_7.index t = ![0, 0] :=
  (by decide +kernel : ∀ t : Fin grid0.N, _)

/-- A block of the weights' or the state's windows is the whole array. -/
theorem blk4 (c : Dev nD) (t : Fin cfg0.N) (a : Fin 512) (b : Fin 1024) :
    iblk m c 4 t (ix2 a b) = V m c main_v7 (ix2 a b) := by
  obtain ⟨e0, e1, e2, e3, e4, e5, e6, e7⟩ := index_facts t
  blk_ext [iblk, e4]
theorem blk3 (c : Dev nD) (t : Fin cfg0.N) (a : Fin 256) (b : Fin 1536) :
    iblk m c 3 t (ix2 a b) = V m c main_v4 (ix2 a b) := by
  obtain ⟨e0, e1, e2, e3, e4, e5, e6, e7⟩ := index_facts t
  blk_ext [iblk, e3]
theorem blk5 (c : Dev nD) (t : Fin cfg0.N) (a : Fin 1) (b : Fin 1536) :
    iblk m c 5 t (ix2 a b) = V m c main_v9 (ix2 a b) := by
  obtain ⟨e0, e1, e2, e3, e4, e5, e6, e7⟩ := index_facts t
  blk_ext [iblk, e5]
theorem blk2 (c : Dev nD) (t : Fin cfg0.N) (a : Fin 256) (b : Fin 512) :
    iblk m c 2 t (ix2 a b) = V m c main_arg1 (ix2 a b) := by
  obtain ⟨e0, e1, e2, e3, e4, e5, e6, e7⟩ := index_facts t
  blk_ext [iblk, e2]
theorem blk0 (c : Dev nD) (t : Fin cfg0.N) (a : Fin 2048) (b : Fin 256) (h : t.val * 2048 + a.val < 131072) :
    iblk m c 0 t (ix2 a b) = V m c main_v0 (ix2 ⟨t.val * 2048 + a.val, h⟩ b) := by
  obtain ⟨e0, e1, e2, e3, e4, e5, e6, e7⟩ := index_facts t
  blk_ext [iblk, e0]
theorem blk1 (c : Dev nD) (t : Fin cfg0.N) (a : Fin 1024) (b : Fin 256) (h : min (2 * t.val + 2) 127 * 1024 + a.val < 131072) :
    iblk m c 1 t (ix2 a b) = V m c main_v0 (ix2 ⟨min (2 * t.val + 2) 127 * 1024 + a.val, h⟩ b) := by
  obtain ⟨e0, e1, e2, e3, e4, e5, e6, e7⟩ := index_facts t
  blk_ext [iblk, e1]

/-- The fifth window's block is the stacked recurrent weights. -/
theorem weights_read (c : Dev nD) (t : Fin cfg0.N) : IsWeights (given m c) (iblk m c 4 t) := by
  intro k j
  constructor
  · refine (blk4 m c t _ _).trans ?_
    entry_read
    pointwise
    rfl
  · refine (blk4 m c t _ _).trans ?_
    entry_read
    pointwise
    rfl

/-- The third window's block is the state the recurrence starts from. -/
theorem start_read (c : Dev nD) (t : Fin cfg0.N) : IsState (given m c) 0 (iblk m c 2 t) := by
  intro r j
  refine (blk2 m c t _ _).trans ?_
  entry_read
  rfl

/-- A row of the reshaped input is a row of one time. -/
theorem input_read (c : Dev nD) (T : ℕ) (hT : T < 512) (r k : Fin 256) (n : ℕ) (hn : n < 131072) (e : n = 256 * T + r.val) :
    V m c main_v0 (ix2 ⟨n, hn⟩ k) = (given m c).x T r k := by
  subst e
  have h : ∀ (T : Fin 512) (h : 256 * T.val + r.val < 131072),
      V m c main_v0 (ix2 ⟨256 * T.val + r.val, h⟩ k)
        = (m ((c.tc : Thread nD τ).loc main_arg0) : Vec Ideal S512x256x256 .f32) (ix3 T r k) := by
    intro T h
    entry_read
    pointwise
  refine (h ⟨T, hT⟩ hn).trans ?_
  unfold given
  dsimp only
  congr 2
  exact Fin.ext (Nat.mod_eq_of_lt hT).symm

/-- The stacked input weights, as the three transposes side by side. -/
theorem inputWeights_entry (c : Dev nD) :
    V m c main_v4 = concatenate S256x1536 1
      [⟨S256x512, transpose S256x512 [1, 0] (m ((c.tc : Thread nD τ).loc main_arg2) : Vec Ideal S512x256 .f32) transposes_S512x256_S256x512_1_0⟩,
        ⟨S256x512, transpose S256x512 [1, 0] (m ((c.tc : Thread nD τ).loc main_arg5) : Vec Ideal S512x256 .f32) transposes_S512x256_S256x512_1_0⟩,
        ⟨S256x512, transpose S256x512 [1, 0] (m ((c.tc : Thread nD τ).loc main_arg8) : Vec Ideal S512x256 .f32) transposes_S512x256_S256x512_1_0⟩]
      concatenates_S256x512_S256x512_S256x512_S256x1536_d1 := by
  have same : ∀ a a' b b' d d' : Vec Ideal S256x512 .f32, a = a' → b = b' → d = d' →
      concatenate S256x1536 1 [⟨S256x512, a⟩, ⟨S256x512, b⟩, ⟨S256x512, d⟩] concatenates_S256x512_S256x512_S256x512_S256x1536_d1
        = concatenate S256x1536 1 [⟨S256x512, a'⟩, ⟨S256x512, b'⟩, ⟨S256x512, d'⟩] concatenates_S256x512_S256x512_S256x512_S256x1536_d1 := by
    rintro a a' b b' d d' rfl rfl rfl
    rfl
  refine (StableHlo.after_last_write (i := 4) [main_v5, main_v6, main_v7, main_v8, main_v9] rfl rfl (by decide) _).trans ?_
  refine (StableHlo.nary_result ..).trans ?_
  refine same _ _ _ _ _ _ ?_ ?_ ?_
  · refine (StableHlo.upto_last_write (n := 4) (i := 1) [main_v2, main_v3] rfl rfl (by decide) _).trans ?_
    refine (StableHlo.unary_result ..).trans ?_
    exact congrArg (transpose S256x512 [1, 0] · transposes_S512x256_S256x512_1_0)
      (StableHlo.upto_unwritten [main_v0] rfl (by decide) _)
  · refine (StableHlo.upto_last_write (n := 4) (i := 2) [main_v3] rfl rfl (by decide) _).trans ?_
    refine (StableHlo.unary_result ..).trans ?_
    exact congrArg (transpose S256x512 [1, 0] · transposes_S512x256_S256x512_1_0)
      (StableHlo.upto_unwritten [main_v0, main_v1] rfl (by decide) _)
  · refine (StableHlo.upto_last_write (n := 4) (i := 3) [] rfl rfl (by decide) _).trans ?_
    refine (StableHlo.unary_result ..).trans ?_
    exact congrArg (transpose S256x512 [1, 0] · transposes_S512x256_S256x512_1_0)
      (StableHlo.upto_unwritten [main_v0, main_v1, main_v2] rfl (by decide) _)

/-- The first columns of the stacked input weights. -/
theorem inputWeights_first (c : Dev nD) (k : Fin 256) (j : Fin 512) :
    V m c main_v4 (ix2 k ⟨0 + j.val, by omega⟩) = (given m c).uc j k := by
  rw [inputWeights_entry]
  pointwise
  rfl

/-- The middle columns of the stacked input weights. -/
theorem inputWeights_second (c : Dev nD) (k : Fin 256) (j : Fin 512) :
    V m c main_v4 (ix2 k ⟨512 + j.val, by omega⟩) = (given m c).ua j k := by
  rw [inputWeights_entry]
  pointwise
  rfl

/-- The last columns of the stacked input weights. -/
theorem inputWeights_third (c : Dev nD) (k : Fin 256) (j : Fin 512) :
    V m c main_v4 (ix2 k ⟨1024 + j.val, by omega⟩) = (given m c).uh j k := by
  rw [inputWeights_entry]
  pointwise
  rw [dif_neg (by omega), dif_neg (by omega)]
  unfold given
  congr 2
  apply Fin.ext
  dsimp only
  omega

/-- The stacked input weights are the three input weights, transposed, side by side. -/
theorem inputWeights_read (c : Dev nD) (k : Fin 256) (j : Fin 512) :
    V m c main_v4 (ix2 k ⟨0 + j.val, by omega⟩) = (given m c).uc j k ∧ V m c main_v4 (ix2 k ⟨512 + j.val, by omega⟩) = (given m c).ua j k
    ∧ V m c main_v4 (ix2 k ⟨1024 + j.val, by omega⟩) = (given m c).uh j k :=
  ⟨inputWeights_first m c k j, inputWeights_second m c k j, inputWeights_third m c k j⟩

/-- The stacked biases are the three biases, one after another. -/
theorem bias_read (c : Dev nD) (j : Fin 512) :
    V m c main_v9 (ix2 0 ⟨0 + j.val, by omega⟩) = (given m c).bc j ∧ V m c main_v9 (ix2 0 ⟨512 + j.val, by omega⟩) = (given m c).ba j
    ∧ V m c main_v9 (ix2 0 ⟨1024 + j.val, by omega⟩) = (given m c).bh j := by
  entry_read
  pointwise
  refine ⟨rfl, rfl, ?_⟩
  rw [dif_neg (by omega), dif_neg (by omega)]
  unfold given
  congr 2
  apply Fin.ext
  dsimp only
  omega

/-- The projections of a chunk whose rows are those of the four times from `T`. -/
theorem project_read (c : Dev nD) (t : Fin cfg0.N) (T : ℕ) (x : Vec Ideal S1024x256 .f32)
    (hx : ∀ (s : Fin 4) (r k : Fin 256), x (ix2 ⟨256 * s.val + r.val, by omega⟩ k) = (given m c).x (T + s.val) r k) :
    IsProj (given m c) T (project (F := Ideal) x (iblk m c 3 t) (iblk m c 5 t)) := by
  intro s r j
  refine ⟨?_, ?_, ?_⟩
  · refine (project_apply x _ _ _ _).trans ?_
    unfold Inputs.proj
    rw [blk5, (bias_read m c j).1]
    congr 1
    refine Finset.sum_congr rfl fun k _ => ?_
    rw [hx, blk3, (inputWeights_read m c k j).1]
  · refine (project_apply x _ _ _ _).trans ?_
    unfold Inputs.proj
    rw [blk5, (bias_read m c j).2.1]
    congr 1
    refine Finset.sum_congr rfl fun k _ => ?_
    rw [hx, blk3, (inputWeights_read m c k j).2.1]
  · refine (project_apply x _ _ _ _).trans ?_
    unfold Inputs.proj
    rw [blk5, (bias_read m c j).2.2]
    congr 1
    refine Finset.sum_congr rfl fun k _ => ?_
    rw [hx, blk3, (inputWeights_read m c k j).2.2]

/-- The first chunk of a point's block is the four times from `8 t`. -/
theorem early_read (c : Dev nD) (t : Fin cfg0.N) (s : Fin 4) (r k : Fin 256) :
    early (iblk m c 0 t : Vec Ideal S2048x256 .f32) (ix2 ⟨256 * s.val + r.val, by omega⟩ k) = (given m c).x (8 * t.val + s.val) r k := by
  have ht : t.val < 64 := lt_of_lt_of_eq t.isLt N_0
  refine (View.ld_unit_apply_of (iblk m c 0 t : Vec Ideal S2048x256 .f32) _ _ _ _ (ix2 ⟨256 * s.val + r.val, by omega⟩ k) fun x => by
    match x with
    | ⟨0, _⟩ => exact (Nat.zero_add _).symm
    | ⟨1, _⟩ => exact (Nat.zero_add _).symm).trans ?_
  refine (blk0 m c t _ _ (by dsimp only; omega)).trans ?_
  exact input_read m c _ (by omega) r k _ _ (by dsimp only; omega)

/-- The second chunk of a point's block is the four times from `8 t + 4`. -/
theorem late_read (c : Dev nD) (t : Fin cfg0.N) (s : Fin 4) (r k : Fin 256) :
    late (iblk m c 0 t : Vec Ideal S2048x256 .f32) (ix2 ⟨256 * s.val + r.val, by omega⟩ k) = (given m c).x (8 * t.val + 4 + s.val) r k := by
  have ht : t.val < 64 := lt_of_lt_of_eq t.isLt N_0
  refine (View.ld_unit_apply_of (iblk m c 0 t : Vec Ideal S2048x256 .f32) _ _ _ _ (ix2 ⟨1024 + (256 * s.val + r.val), by omega⟩ k) fun x => by
    match x with
    | ⟨0, _⟩ => rfl
    | ⟨1, _⟩ => exact (Nat.zero_add _).symm).trans ?_
  refine (blk0 m c t _ _ (by dsimp only; omega)).trans ?_
  exact input_read m c _ (by omega) r k _ _ (by dsimp only; omega)

/-- Before the last point, the second window's block is the four times from `8 (t + 1)`. -/
theorem ahead_read (c : Dev nD) (t : Fin cfg0.N) (ht : t.val < 63) (s : Fin 4) (r k : Fin 256) :
    (iblk m c 1 t : Vec Ideal S1024x256 .f32) (ix2 ⟨256 * s.val + r.val, by omega⟩ k) = (given m c).x (8 * (t.val + 1) + s.val) r k := by
  refine (blk1 m c t _ _ (by dsimp only; omega)).trans ?_
  exact input_read m c _ (by omega) r k _ _ (by dsimp only; omega)

/-- What a point leaves: the state after its eight times; before the last point, the projections of the four times after them; its
    block of results; and at the last point the final state. -/
structure Left (I : Inputs) (n : ℕ)
    (o : Vec Ideal S2048x512 .f32 × Vec Ideal S256x512 .f32 × Vec Ideal S256x512 .f32 × Vec Ideal S1024x1536 .f32) : Prop where
  state : IsState I (8 * (n + 1)) o.2.2.1
  next : n < 63 → IsProj I (8 * (n + 1)) o.2.2.2
  out : ∀ y, o.1 y = block I (8 * n) y
  last : n = 63 → IsState I 512 o.2.1

/-- The first point. -/
theorem left_first (c : Dev nD) (t : Fin cfg0.N) (h0 : t.val = 0) : Left (given m c) t.val (outsAt0 m c t.val t.isLt) := by
  have hw := weights_read m c t
  have hp := project_read m c t _ _ (early_read m c t)
  have hq := project_read m c t _ _ (late_read m c t)
  have hh : IsState (given m c) (8 * t.val) (iblk m c 2 t) := by rw [h0]; exact start_read m c t
  refine ⟨?_, fun h => ?_, fun y => ?_, fun h => absurd h (by omega)⟩
  · rw [first_state m c t (by omega) (by omega)]
    exact four_state hw hq (four_state hw hp hh)
  · rw [first_next m c t (by omega) (by omega)]
    exact project_read m c t _ _ (ahead_read m c t h)
  · rw [first_out m c t (by omega) (by omega)]
    exact stacked_state hw hp hq hh y

/-- A later point, from what the point before left. -/
theorem left_step (c : Dev nD) (t : Fin cfg0.N) (h0 : t.val ≠ 0)
    (hl : Left (given m c) (t.val - 1) (outsAt0 m c (t.val - 1) (Nat.lt_of_le_of_lt (Nat.sub_le _ _) t.isLt))) :
    Left (given m c) t.val (outsAt0 m c t.val t.isLt) := by
  have ht : t.val < 64 := lt_of_lt_of_eq t.isLt N_0
  have e : t.val - 1 + 1 = t.val := by omega
  have hw := weights_read m c t
  have hp := hl.next (by omega)
  have hq := project_read m c t _ _ (late_read m c t)
  have hh := hl.state
  rw [e] at hp hh
  have hf := four_state hw hq (four_state hw hp hh)
  by_cases h1 : t.val = 63
  · refine ⟨?_, fun h => absurd h (by omega), fun y => ?_, fun _ => ?_⟩
    · rw [end_state m c t (by omega) (by omega)]
      exact hf
    · rw [end_out m c t (by omega) (by omega)]
      exact stacked_state hw hp hq hh y
    · rw [end_last m c t (by omega) (by omega)]
      have e8 : 8 * t.val + 4 + 4 = 512 := by omega
      rw [e8] at hf
      exact hf
  · refine ⟨?_, fun h => ?_, fun y => ?_, fun h => absurd h h1⟩
    · rw [mid_state m c t (by omega) (by omega)]
      exact hf
    · rw [mid_next m c t (by omega) (by omega)]
      exact project_read m c t _ _ (ahead_read m c t h)
    · rw [mid_out m c t (by omega) (by omega)]
      exact stacked_state hw hp hq hh y

/-- Every point. -/
theorem left_all (c : Dev nD) : ∀ (n : ℕ) (hn : n < cfg0.N), Left (given m c) n (outsAt0 m c n hn)
  | 0, hn => left_first m c ⟨0, hn⟩ rfl
  | n + 1, hn => left_step m c ⟨n + 1, hn⟩ (Nat.succ_ne_zero n) (left_all c n (Nat.lt_of_succ_lt hn))

end Cert.Nbrc

end
-- ==== Proof.Final.lean ====
module

public import proofs.«01_k».proof.Proof.Sweep

@[expose] public section

set_option maxRecDepth 16384

noncomputable section

/-! The two arrays the kernel's call returns, read off what each grid point leaves. -/

namespace Cert.Nbrc

open Idealize Idealize.ShloMosaic Cert.KernelIdeal Cert.KernelIdeal.Gen

variable (m : (l : Loc nD τ sig) → Buf (Elt Ideal) l) (ρ : Dev nD → PrngReg)

/-- The array of all states: row `256 t + r` is batch row `r` of the state after time `t`. -/
def allStates (I : Inputs) : Vec Ideal S131072x512 .f32 :=
  fun i => I.state ((i 0).val / 256 + 1) ⟨(i 0).val % 256, Nat.mod_lt _ (by decide)⟩ (i 1)

/-- The array of the last state. -/
def lastState (I : Inputs) : Vec Ideal S256x512 .f32 :=
  fun i => I.state 512 (i 0) (i 1)

/-- A point's block sits in the array of all states at the rows of its times. -/
theorem block_at (I : Inputs) (T : ℕ) (y : S2048x512.Idx) (i : S131072x512.Idx) (h0 : (i 0).val = 256 * T + (y 0).val)
    (h1 : (i 1).val = (y 1).val) : block I T y = allStates I i := by
  have e1 : (y 1 : Fin 512) = i 1 := Fin.ext h1.symm
  have e2 : T + (y 0).val / 256 + 1 = (i 0).val / 256 + 1 := by omega
  have e3 : (y 0).val % 256 = (i 0).val % 256 := by omega
  have same : ∀ (a b : ℕ) (r s : Fin 256) (j k : Fin 512), a = b → r = s → j = k → I.state a r j = I.state b s k := by
    rintro a b r s j k rfl rfl rfl
    rfl
  exact same _ _ _ _ _ _ e2 (Fin.ext e3) e1

/-- The first result holds every state. -/
theorem results_states (c : Dev nD) : (dats m 0 c).arrAt 6 cfg0.N = allStates (given m c) := by
  refine (dats m 0 c).arrAt_eq_of_covers 6 _ (by decide +kernel) fun t hf y => ?_
  have hl := (left_all m c t.val t.isLt).out
  obtain ⟨e0, e1, e2, e3, e4, e5, e6, e7⟩ := index_facts t
  blk_simp
  rw [after0_6]
  refine (hl y).trans ?_
  have hy0 : (y 0).val < 2048 := (y 0).isLt
  have hb0 : ((win0_6.blk t).view.emb y 0).val = win0_6.index t (0 : Fin 2) * 2048 + 1 * (y 0).val := rfl
  have hb1 : ((win0_6.blk t).view.emb y 1).val = win0_6.index t (1 : Fin 2) * 512 + 1 * (y 1).val := rfl
  have f0 : win0_6.index t (0 : Fin 2) = t.val := congrFun e6 0
  have f1 : win0_6.index t (1 : Fin 2) = 0 := congrFun e6 1
  exact block_at _ _ _ _ (by omega) (by omega)

/-- The second result holds the last state. -/
theorem results_last (c : Dev nD) : (dats m 0 c).arrAt 7 cfg0.N = lastState (given m c) := by
  refine (dats m 0 c).arrAt_eq_of_covers 7 _ (by decide +kernel) fun t hf y => ?_
  have ht : t.val < 64 := lt_of_lt_of_eq t.isLt N_0
  have h63 : t.val % 64 = 63 := (flush0_7 t).mp hf
  have hl := (left_all m c t.val t.isLt).last (by omega)
  obtain ⟨e0, e1, e2, e3, e4, e5, e6, e7⟩ := index_facts t
  blk_simp
  rw [after0_7]
  have hy : y = ix2 (y 0) (y 1) := by
    funext a
    match a with
    | ⟨0, _⟩ => rfl
    | ⟨1, _⟩ => rfl
  have hb0 : ((win0_7.blk t).view.emb y 0).val = win0_7.index t (0 : Fin 2) * 256 + 1 * (y 0).val := rfl
  have hb1 : ((win0_7.blk t).view.emb y 1).val = win0_7.index t (1 : Fin 2) * 512 + 1 * (y 1).val := rfl
  have f0 : win0_7.index t (0 : Fin 2) = 0 := congrFun e7 0
  have f1 : win0_7.index t (1 : Fin 2) = 0 := congrFun e7 1
  refine (congrArg (outsAt0 m c t.val t.isLt).2.1 hy).trans ((hl (y 0) (y 1)).trans ?_)
  unfold lastState
  congr 1
  · apply Fin.ext
    omega
  · apply Fin.ext
    omega

/-- The kernel's run: both results as states, the arguments unchanged. -/
theorem kernel_run : θ_run defs (onTc (τ := τ) (main (F := Ideal))) ⟨m, fun _ => 0, ρ⟩ fun r => ∀ c : Dev nD,
      r.2.mem ((c.tc : Thread nD τ).loc main_v10_0) = allStates (given m c)
      ∧ r.2.mem ((c.tc : Thread nD τ).loc main_v10_1) = lastState (given m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h.1 c).1 6).trans (results_states m c), ((h.1 c).1 7).trans (results_last m c), h.2 c⟩)
    (θ_run_and (run_main m ρ) (unchanged m ρ))

end Cert.Nbrc

end
-- ==== Proof.Loop.lean ====
module

public import proofs.«01_k».proof.Proof.Recur
public import proofs.«01_k».proof.Proof.Gen.ReferenceIdeal.Run
public import Idealize.ShloMosaic.Lib.DynamicIndex
public import Idealize.ShloMosaic.Lib.Claim
public import Idealize.ShloMosaic.Lib.Pipeline.ValueKit
public import Idealize.ShloMosaic.Lib.Pointwise

@[expose] public section

set_option maxRecDepth 16384

noncomputable section

/-! The reference's loop, one trip at a time, at the extended reals. -/

namespace Cert.Nbrc.Ref

open Idealize Idealize.ShloMosaic Cert.Nbrc Cert.ReferenceIdeal Cert.ReferenceIdeal.Gen Cert.ReferenceIdeal.Value
open Idealize.ShloMosaic.StableHlo

section

variable {F : FTy → Type} [FloatOps F]

/-- The row of a time-indexed array at a time. -/
def pick (x : Vec F S512x256x512 .f32) (n z z' : IVec S_ 32) : Vec F S256x512 .f32 :=
  shapeCast S256x512 (Host.dynamicSlice S1x256x512 x (fun k => ((![n, z, z'] : Fin 3 → IVec S_ 32) k (Shape.Idx.first h_S_)).toInt)
    sliceFits_S512x256x512_S1x256x512) shapeCasts_S1x256x512_S256x512

/-- A time-indexed array with the row at a time replaced. -/
def put (x : Vec F S512x256x512 .f32) (u : Vec F S256x512 .f32) (n z z' : IVec S_ 32) : Vec F S512x256x512 .f32 :=
  Host.dynamicUpdateSlice x (broadcastInDim S1x256x512 ![1, 2] bcast_S256x512_S1x256x512_1_2 u)
    (fun k => ((![n, z, z'] : Fin 3 → IVec S_ 32) k (Shape.Idx.first h_S_)).toInt) updateFits_S512x256x512_S1x256x512

/-- The reference's gate. -/
def gate (xc h : Vec F S256x512 .f32) (w : Vec F S512x512 .f32) : Vec F S256x512 .f32 :=
  Host.divf (broadcastInDim S256x512 ![] bcast_S_S256x512 (constant S_ .f32 0x3F800000#32))
    (addf (broadcastInDim S256x512 ![] bcast_S_S256x512 (constant S_ .f32 0x3F800000#32))
      (Host.exp (Host.negf (addf xc (Host.dotGeneral dot_S256x512_S512x512_S256x512_1_0_0_1_n_n none h
        (transpose S512x512 [1, 0] w transposes_S512x512_S512x512_1_0))))))

/-- The reference's new state. -/
def fresh (xc xa xz h : Vec F S256x512 .f32) (wc wa : Vec F S512x512 .f32) : Vec F S256x512 .f32 :=
  addf (mulf (gate xc h wc) h)
    (mulf (subf (broadcastInDim S256x512 ![] bcast_S_S256x512 (constant S_ .f32 0x3F800000#32)) (gate xc h wc))
      (Host.tanh (addf xz (mulf (addf (broadcastInDim S256x512 ![] bcast_S_S256x512 (constant S_ .f32 0x3F800000#32))
        (Host.tanh (addf xa (Host.dotGeneral dot_S256x512_S512x512_S256x512_1_0_0_1_n_n none h
          (transpose S512x512 [1, 0] wa transposes_S512x512_S512x512_1_0))))) h))))

end

/-- The new state at an element. -/
theorem fresh_apply (xc xa xz h : Vec Ideal S256x512 .f32) (wc wa : Vec Ideal S512x512 .f32) (r : Fin 256) (j : Fin 512) :
    fresh xc xa xz h wc wa (ix2 r j)
      = next (xc (ix2 r j) + ∑ k : Fin 512, h (ix2 r k) * wc (ix2 j k)) (xa (ix2 r j) + ∑ k : Fin 512, h (ix2 r k) * wa (ix2 j k))
          (xz (ix2 r j)) (h (ix2 r j)) := by
  unfold fresh gate next
  pointwise
  rfl

/-- The starts of a slice at a time. -/
theorem starts_at (t : ℕ) (ht : t < 512) (k : Fin 3) :
    ((![fun _ => BitVec.ofNat 32 t, constantI S_ 32 0#32, constantI S_ 32 0#32] : Fin 3 → IVec S_ 32) k (Shape.Idx.first h_S_)).toInt
      = ((![t, 0, 0] : Fin 3 → ℕ) k : ℤ) := by
  match k with
  | ⟨0, _⟩ => exact toInt_ofNat_of_lt (by omega)
  | ⟨1, _⟩ => rfl
  | ⟨2, _⟩ => rfl

/-- A slice at a time inside the array starts where it is asked to. -/
theorem clamped_at (t : ℕ) (ht : t < 512) (h : S1x256x512.rank = S512x256x512.rank) (a : Fin 3) :
    Host.clampedStart S512x256x512 S1x256x512 h (fun x => (((![t, 0, 0] : Fin 3 → ℕ) x : ℕ) : ℤ)) a = (![t, 0, 0] : Fin 3 → ℕ) a := by
  unfold Host.clampedStart
  match a with
  | ⟨0, _⟩ =>
    show (min (max (t : ℤ) 0) ((512 - 1 : ℕ) : ℤ)).toNat = t
    omega
  | ⟨1, _⟩ => rfl
  | ⟨2, _⟩ => rfl

/-- A picked row at an element. -/
theorem pick_at (x : Vec Ideal S512x256x512 .f32) (t : ℕ) (ht : t < 512) (r : Fin 256) (j : Fin 512) :
    pick x (fun _ => BitVec.ofNat 32 t) (constantI S_ 32 0#32) (constantI S_ 32 0#32) (ix2 r j) = x (ix3 ⟨t, ht⟩ r j) := by
  have same : ∀ (a b : Fin 512) (q s : Fin 256) (i k : Fin 512), a = b → q = s → i = k → x (ix3 a q i) = x (ix3 b s k) := by
    rintro a b q s i k rfl rfl rfl
    rfl
  unfold pick
  rw [funext (starts_at t ht)]
  pointwise
  refine same _ _ _ _ _ _ (Fin.ext ?_) (Fin.ext ?_) (Fin.ext ?_)
  · exact clamped_at t ht rfl 0
  · exact (congrArg (· + r.val) (clamped_at t ht rfl 1)).trans (Nat.zero_add _)
  · exact (congrArg (· + j.val) (clamped_at t ht rfl 2)).trans (Nat.zero_add _)

/-- A replaced row: the new row at its time, the old elsewhere. -/
theorem put_at (x : Vec Ideal S512x256x512 .f32) (u : Vec Ideal S256x512 .f32) (t : ℕ) (ht : t < 512) (s : Fin 512) (r : Fin 256) (j : Fin 512) :
    put x u (fun _ => BitVec.ofNat 32 t) (constantI S_ 32 0#32) (constantI S_ 32 0#32) (ix3 s r j)
      = if s.val = t then u (ix2 r j) else x (ix3 s r j) := by
  have same : ∀ (q w : Fin 256) (i k : Fin 512), q = w → i = k → u (ix2 q i) = u (ix2 w k) := by
    rintro q w i k rfl rfl
    rfl
  have e0 := clamped_at t ht rfl 0
  have e1 := clamped_at t ht rfl 1
  have e2 := clamped_at t ht rfl 2
  replace e0 : _ = t := e0
  replace e1 : _ = 0 := e1
  replace e2 : _ = 0 := e2
  unfold put
  rw [funext (starts_at t ht)]
  pointwise
  by_cases hs : s.val = t
  · rw [if_pos hs, dif_pos ⟨⟨by rw [e0, hs], by rw [e0, hs]; omega⟩, by rw [e1]; omega, by rw [e2]; omega⟩]
    exact same _ _ _ _ (Fin.ext (by dsimp only; rw [e1]; omega)) (Fin.ext (by dsimp only; rw [e2]; omega))
  · rw [if_neg hs, dif_neg]
    rintro ⟨⟨h1, h2⟩, -⟩
    rw [e0] at h1 h2
    exact hs (by omega)

variable (m : (l : Loc nD τ sig) → Buf (Elt Ideal) l)

theorem trip_state (V0 : Valuation τ sig (Elt Ideal)) : res_main_while0b_v40 V0
    = fresh (pick (V0 (Proc.devRef .tc main_v13_0)) (V0 (Proc.devRef .tc main_v13_5)) (constantI S_ 32 0#32) (constantI S_ 32 0#32))
      (pick (V0 (Proc.devRef .tc main_v13_1)) (V0 (Proc.devRef .tc main_v13_5)) (constantI S_ 32 0#32) (constantI S_ 32 0#32))
      (pick (V0 (Proc.devRef .tc main_v13_2)) (V0 (Proc.devRef .tc main_v13_5)) (constantI S_ 32 0#32) (constantI S_ 32 0#32))
      (V0 (Proc.devRef .tc main_v13_6)) (V0 (Proc.devRef .tc main_v13_3)) (V0 (Proc.devRef .tc main_v13_4)) := rfl

/-- What the loop holds before its trip `k`. -/
structure Holds (I : Inputs) (k : ℕ) (V : Valuation τ sig (Elt Ideal)) : Prop where
  gates : ∀ (t : Fin 512) r j, (V (Proc.devRef .tc main_v13_0) : Vec Ideal S512x256x512 .f32) (ix3 t r j) = I.proj I.uc I.bc t.val r j
  feeds : ∀ (t : Fin 512) r j, (V (Proc.devRef .tc main_v13_1) : Vec Ideal S512x256x512 .f32) (ix3 t r j) = I.proj I.ua I.ba t.val r j
  cands : ∀ (t : Fin 512) r j, (V (Proc.devRef .tc main_v13_2) : Vec Ideal S512x256x512 .f32) (ix3 t r j) = I.proj I.uh I.bh t.val r j
  wc : ∀ j i, (V (Proc.devRef .tc main_v13_3) : Vec Ideal S512x512 .f32) (ix2 j i) = I.wc j i
  wa : ∀ j i, (V (Proc.devRef .tc main_v13_4) : Vec Ideal S512x512 .f32) (ix2 j i) = I.wa j i
  count : (V (Proc.devRef .tc main_v13_5) : IVec S_ 32) = fun _ => BitVec.ofNat 32 k
  state : ∀ r j, (V (Proc.devRef .tc main_v13_6) : Vec Ideal S256x512 .f32) (ix2 r j) = I.state k r j
  rows : ∀ (t : Fin 512) r j, t.val < k → (V (Proc.devRef .tc main_v13_7) : Vec Ideal S512x256x512 .f32) (ix3 t r j) = I.state (t.val + 1) r j

/-- A trip's new state. -/
theorem trip_fresh (I : Inputs) (k : ℕ) (hk : k < 512) (V : Valuation τ sig (Elt Ideal)) (h : Holds I k V) (r : Fin 256) (j : Fin 512) :
    (res_main_while0b_v40 V : Vec Ideal S256x512 .f32) (ix2 r j) = I.state (k + 1) r j := by
  rw [trip_state, h.count]
  refine (fresh_apply _ _ _ _ _ _ r j).trans ?_
  have same : ∀ a a' b b' z z' x x' : EReal, a = a' → b = b' → z = z' → x = x' → next a b z x = next a' b' z' x' := by
    rintro a _ b _ z _ x _ rfl rfl rfl rfl
    rfl
  refine same _ _ _ _ _ _ _ _ (congrArg₂ (· + ·) ((pick_at _ k hk r j).trans (h.gates _ r j)) ?_)
    (congrArg₂ (· + ·) ((pick_at _ k hk r j).trans (h.feeds _ r j)) ?_) ((pick_at _ k hk r j).trans (h.cands _ r j)) (h.state r j)
  · exact Finset.sum_congr rfl fun i _ => congrArg₂ (· * ·) (h.state r i) (h.wc j i)
  · exact Finset.sum_congr rfl fun i _ => congrArg₂ (· * ·) (h.state r i) (h.wa j i)

/-- A trip advances the state by one time and writes it to its row. -/
theorem trip_holds (I : Inputs) (k : ℕ) (hk : k < 512) (V : Valuation τ sig (Elt Ideal)) (h : Holds I k V) : Holds I (k + 1) (STEP V) where
  gates t r j := by rw [STEP_main_v13_0]; exact h.gates t r j
  feeds t r j := by rw [STEP_main_v13_1]; exact h.feeds t r j
  cands t r j := by rw [STEP_main_v13_2]; exact h.cands t r j
  wc j i := by rw [STEP_main_v13_3]; exact h.wc j i
  wa j i := by rw [STEP_main_v13_4]; exact h.wa j i
  count := by
    rw [STEP_main_v13_5]
    show addi (V (Proc.devRef .tc main_v13_5) : IVec S_ 32) (constantI S_ 32 1#32) = _
    rw [h.count]
    funext i
    exact (BitVec.ofNat_add k 1).symm
  state r j := by rw [STEP_main_v13_6]; exact trip_fresh I k hk V h r j
  rows t r j ht := by
    rw [STEP_main_v13_7]
    show put (V (Proc.devRef .tc main_v13_7)) (res_main_while0b_v40 V) (V (Proc.devRef .tc main_v13_5) : IVec S_ 32)
      (constantI S_ 32 0#32) (constantI S_ 32 0#32) (ix3 t r j) = _
    rw [h.count]
    refine (put_at _ _ k hk t r j).trans ?_
    by_cases e : t.val = k
    · rw [if_pos e, trip_fresh I k hk V h, e]
    · rw [if_neg e]
      exact h.rows t r j (by omega)

/-- The reference's ten arguments as coordinates' functions. -/
def given (c : Dev nD) : Inputs where
  x t r k := (m ((c.tc : Thread nD τ).loc main_arg0) : Vec Ideal S512x256x256 .f32) (ix3 ⟨t % 512, Nat.mod_lt _ (by decide)⟩ r k)
  start r j := (m ((c.tc : Thread nD τ).loc main_arg1) : Vec Ideal S256x512 .f32) (ix2 r j)
  uc j k := (m ((c.tc : Thread nD τ).loc main_arg2) : Vec Ideal S512x256 .f32) (ix2 j k)
  wc j k := (m ((c.tc : Thread nD τ).loc main_arg3) : Vec Ideal S512x512 .f32) (ix2 j k)
  bc j := (m ((c.tc : Thread nD τ).loc main_arg4) : Vec Ideal S512 .f32) (ix1 j)
  ua j k := (m ((c.tc : Thread nD τ).loc main_arg5) : Vec Ideal S512x256 .f32) (ix2 j k)
  wa j k := (m ((c.tc : Thread nD τ).loc main_arg6) : Vec Ideal S512x512 .f32) (ix2 j k)
  ba j := (m ((c.tc : Thread nD τ).loc main_arg7) : Vec Ideal S512 .f32) (ix1 j)
  uh j k := (m ((c.tc : Thread nD τ).loc main_arg8) : Vec Ideal S512x256 .f32) (ix2 j k)
  bh j := (m ((c.tc : Thread nD τ).loc main_arg9) : Vec Ideal S512 .f32) (ix1 j)

/-- A projection of the given inputs at a time inside the array. -/
theorem proj_eq (c : Dev nD) (x : Vec Ideal S512x256x256 .f32) (hx : x = m ((c.tc : Thread nD τ).loc main_arg0))
    (u : Fin 512 → Fin 256 → EReal) (b : Fin 512 → EReal) (t : Fin 512) (r : Fin 256) (j : Fin 512) :
    (∑ k : Fin 256, x (ix3 t r k) * u j k) + b j = (given m c).proj u b t.val r j := by
  have ht : (⟨t.val % 512, Nat.mod_lt _ (by decide)⟩ : Fin 512) = t := Fin.ext (Nat.mod_eq_of_lt t.isLt)
  subst hx
  unfold Inputs.proj given
  dsimp only
  rw [ht]

/-- What the loop starts from. -/
theorem entry_holds (c : Dev nD) : Holds (given m c) 0 (entryContents preI m c) where
  gates t r j := by
    simp only [entryContents, afterL_cons, afterL_nil]
    entry_read
    dsimp only [id]
    pointwise
    exact proj_eq m c _ rfl (given m c).uc (given m c).bc t r j
  feeds t r j := by
    simp only [entryContents, afterL_cons, afterL_nil]
    entry_read
    dsimp only [id]
    pointwise
    exact proj_eq m c _ rfl (given m c).ua (given m c).ba t r j
  cands t r j := by
    simp only [entryContents, afterL_cons, afterL_nil]
    entry_read
    dsimp only [id]
    pointwise
    exact proj_eq m c _ rfl (given m c).uh (given m c).bh t r j
  wc j i := by
    simp only [entryContents, afterL_cons, afterL_nil]
    entry_read
    rfl
  wa j i := by
    simp only [entryContents, afterL_cons, afterL_nil]
    entry_read
    rfl
  count := ctr_entry m c
  state r j := by
    simp only [entryContents, afterL_cons, afterL_nil]
    entry_read
    rfl
  rows t r j ht := absurd ht (Nat.not_lt_zero _)

/-- The loop's contents before each trip. -/
theorem trips_hold (c : Dev nD) (k : ℕ) (hk : k ≤ 512) : Holds (given m c) k (STEP^[k] (entryContents preI m c)) := by
  induction k with
  | zero => exact entry_holds m c
  | succ k ih =>
    rw [Function.iterate_succ_apply']
    exact trip_holds _ k (by omega) _ (ih (by omega))

/-- The reference's second result holds the last state. -/
theorem last_eq (c : Dev nD) : ((STEP^[512] (entryContents preI m c)) (Proc.devRef .tc main_v13_6) : Vec Ideal S256x512 .f32)
    = fun i => (given m c).state 512 (i 0) (i 1) := by
  funext i
  refine Eq.trans ?_ ((trips_hold m c 512 le_rfl).state (i 0) (i 1))
  exact congrArg _ (eq_ix2 i)

/-- The reference's first result holds every state. -/
theorem all_eq (c : Dev nD) : (out_main_v14 (STEP^[512] (entryContents preI m c)) : Vec Ideal S131072x512 .f32)
    = fun i => (given m c).state ((i 0).val / 256 + 1) ⟨(i 0).val % 256, Nat.mod_lt _ (by decide)⟩ (i 1) := by
  have h := (trips_hold m c 512 le_rfl).rows
  generalize STEP^[512] (entryContents preI m c) = V at h
  funext i
  obtain ⟨q, j, rfl⟩ : ∃ (q : Fin 131072) (j : Fin 512), i = ix2 q j := ⟨i 0, i 1, eq_ix2 i⟩
  have hq : q.val < 131072 := q.isLt
  unfold out_main_v14
  refine Eq.trans ?_ (h ⟨q.val / 256, by omega⟩ ⟨q.val % 256, Nat.mod_lt _ (by decide)⟩ j (by show q.val / 256 < 512; omega))
  pointwise

end Cert.Nbrc.Ref

end
-- ==== Proof.lean ====
module

public import proofs.«01_k».proof.Proof.Final
public import proofs.«01_k».proof.Proof.Loop
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Nbrc

/-- The ten arrays gathered as functions of their coordinates. -/
def gather (x : Vec Ideal Cert.KernelIdeal.S512x256x256 .f32) (h : Vec Ideal Cert.KernelIdeal.S256x512 .f32)
    (uc : Vec Ideal Cert.KernelIdeal.S512x256 .f32) (wc : Vec Ideal Cert.KernelIdeal.S512x512 .f32) (bc : Vec Ideal Cert.KernelIdeal.S512 .f32)
    (ua : Vec Ideal Cert.KernelIdeal.S512x256 .f32) (wa : Vec Ideal Cert.KernelIdeal.S512x512 .f32) (ba : Vec Ideal Cert.KernelIdeal.S512 .f32)
    (uh : Vec Ideal Cert.KernelIdeal.S512x256 .f32) (bh : Vec Ideal Cert.KernelIdeal.S512 .f32) : Inputs where
  x t r k := x (ix3 ⟨t % 512, Nat.mod_lt _ (by decide)⟩ r k)
  start r j := h (ix2 r j)
  uc j k := uc (ix2 j k)
  wc j k := wc (ix2 j k)
  bc j := bc (ix1 j)
  ua j k := ua (ix2 j k)
  wa j k := wa (ix2 j k)
  ba j := ba (ix1 j)
  uh j k := uh (ix2 j k)
  bh j := bh (ix1 j)

/-- Equal arrays gather to equal inputs. -/
theorem gather_congr {x x' h h' uc uc' wc wc' bc bc' ua ua' wa wa' ba ba' uh uh' bh bh'} (e0 : x = x') (e1 : h = h') (e2 : uc = uc')
    (e3 : wc = wc') (e4 : bc = bc') (e5 : ua = ua') (e6 : wa = wa') (e7 : ba = ba') (e8 : uh = uh') (e9 : bh = bh') :
    gather x h uc wc bc ua wa ba uh bh = gather x' h' uc' wc' bc' ua' wa' ba' uh' bh' := by
  rw [e0, e1, e2, e3, e4, e5, e6, e7, e8, e9]

/-- The kernel as lowered ends, with its arguments as they were and its counters at zero. -/
theorem frame_kernel : Cert.quiescent_Kernel (hKernel := Cert.Kernel.Gen.facts) := fun m g _ => Cert.Kernel.Gen.frame m g

/-- The kernel at the extended reals ends, with its arguments as they were and its counters at zero. -/
theorem frame_ideal : Cert.quiescent_KernelIdeal (hKernelIdeal := Cert.KernelIdeal.Gen.facts) := fun m g _ => Cert.KernelIdeal.Gen.frame m g

/-- The reference ends, with its arguments as they were and its counters at zero. -/
theorem frame_reference : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run m g)

/-- From equal arguments the kernel and the reference return equal arrays: every state, and the last one. -/
theorem values : Cert.algebraic_KernelIdeal_ReferenceIdeal (hKernelIdeal := Cert.KernelIdeal.Gen.facts)
    (hReferenceIdeal := Cert.ReferenceIdeal.Gen.facts) := by
  intro m g m' g' _ hagree
  have hg : ∀ c, Ref.given m' c = given m c := fun c => by
    obtain ⟨e0, e1, e2, e3, e4, e5, e6, e7, e8, e9⟩ := hagree c
    exact gather_congr e0 e1 e2 e3 e4 e5 e6 e7 e8 e9
  refine ⟨fun c => allStates (given m c), fun c => lastState (given m c), kernel_run m g,
    (θ_run Cert.ReferenceIdeal.defs _ _).mono (fun r h c => ⟨(h c).1.trans ?_, (h c).2.1.trans ?_, (h c).2.2⟩)
      (Cert.ReferenceIdeal.Value.run m' g')⟩
  · exact (Ref.all_eq m' c).trans (congrArg allStates (hg c))
  · exact (Ref.last_eq m' c).trans (congrArg lastState (hg c))

theorem claim : Cert.Claim := ⟨Cert.Kernel.Gen.facts, Cert.KernelIdeal.Gen.facts, Cert.ReferenceIdeal.Gen.facts,
  frame_kernel, frame_ideal, frame_reference, trivial, values⟩

end Cert.Proof

end
